-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S10x512x16384 : Shape := ⟨3, ![10, 512, 16384]⟩
abbrev S10x512x128 : Shape := ⟨3, ![10, 512, 128]⟩
abbrev S4x16384x5632 : Shape := ⟨3, ![4, 16384, 5632]⟩
abbrev S4x128x44 : Shape := ⟨3, ![4, 128, 44]⟩
abbrev S10x4 : Shape := ⟨2, ![10, 4]⟩
abbrev S_ : Shape := ⟨0, ![]⟩

class Facts : Prop where
  bcast_S_S10x4 : S_.BroadcastsInDim S10x4 (![] : Fin 0 → Fin S10x4.rank)
  reducesTo_S10x4_S_d0_1 : S10x4.ReducesTo [0, 1] S_
  h_S_ : 0 < S_.numel

variable [Facts]

def fn {F : FTy → Type} [FloatOps F] (main_arg0 : FVec F S10x512x16384 .fp8e4m3) (main_arg1 : FVec F S10x512x128 .f32) (main_arg2 : FVec F S4x16384x5632 .fp8e4m3) (main_arg3 : FVec F S4x128x44 .f32) (main_arg4 : IVec S10x4 32) : IVec S10x4 1 × IVec S_ 1 :=
  let main_c : IVec S_ 32 := constantI S_ 32 0#32
  let main_v0 : IVec S10x4 32 := broadcastInDim S10x4 ![] bcast_S_S10x4 main_c
  let main_v1 : IVec S10x4 1 := cmpi .sge main_arg4 main_v0
  let main_c_0 : IVec S_ 32 := constantI S_ 32 5120#32
  let main_v2 : IVec S10x4 32 := broadcastInDim S10x4 ![] bcast_S_S10x4 main_c_0
  let main_v3 : IVec S10x4 1 := cmpi .sle main_arg4 main_v2
  let main_v4 : IVec S10x4 1 := andi main_v1 main_v3
  let main_c_1 : IVec S_ 32 := constantI S_ 32 0#32
  let main_v5 : IVec S_ 32 := (fun x v => Host.reduce IntOp.addi x v reducesTo_S10x4_S_d0_1 h_S_) main_arg4 main_c_1
  let main_c_2 : IVec S_ 32 := constantI S_ 32 5120#32
  let main_v6 : IVec S_ 1 := cmpi .sle main_v5 main_c_2
  (main_v4, main_v6)
-- ==== Kernel.lean ====
abbrev S10x512x16384 : Shape := ⟨3, ![10, 512, 16384]⟩
abbrev S10x512x128 : Shape := ⟨3, ![10, 512, 128]⟩
abbrev S4x16384x5632 : Shape := ⟨3, ![4, 16384, 5632]⟩
abbrev S4x128x44 : Shape := ⟨3, ![4, 128, 44]⟩
abbrev S10x4 : Shape := ⟨2, ![10, 4]⟩
abbrev S_ : Shape := ⟨0, ![]⟩
abbrev S4 : Shape := ⟨1, ![4]⟩
abbrev S10x512x8x16 : Shape := ⟨4, ![10, 512, 8, 16]⟩
abbrev S10x8x512x16 : Shape := ⟨4, ![10, 8, 512, 16]⟩
abbrev S4x8x16x11x4 : Shape := ⟨5, ![4, 8, 16, 11, 4]⟩
abbrev S4x8x11x16x4 : Shape := ⟨5, ![4, 8, 11, 16, 4]⟩
abbrev S40 : Shape := ⟨1, ![40]⟩
abbrev S10x512x5632 : Shape := ⟨3, ![10, 512, 5632]⟩
abbrev S1x512x2048 : Shape := ⟨3, ![1, 512, 2048]⟩
abbrev S1 : Shape := ⟨1, ![1]⟩
abbrev S1x1x512x16 : Shape := ⟨4, ![1, 1, 512, 16]⟩
abbrev S1x2048x512 : Shape := ⟨3, ![1, 2048, 512]⟩
abbrev S1x1x1x16x4 : Shape := ⟨5, ![1, 1, 1, 16, 4]⟩
abbrev S1x512x512 : Shape := ⟨3, ![1, 512, 512]⟩
abbrev S512x512 : Shape := ⟨2, ![512, 512]⟩
abbrev S512x1 : Shape := ⟨2, ![512, 1]⟩
abbrev S512x16 : Shape := ⟨2, ![512, 16]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S1x1x1x1x1 : Shape := ⟨5, ![1, 1, 1, 1, 1]⟩
abbrev S1x1 : Shape := ⟨2, ![1, 1]⟩
abbrev S128x512 : Shape := ⟨2, ![128, 512]⟩
abbrev S512x2048 : Shape := ⟨2, ![512, 2048]⟩
abbrev S2048x512 : Shape := ⟨2, ![2048, 512]⟩

abbrev nBuf : Space → Nat
  | .hbm => 30
  | .vmem => 11
  | .smem => 4
  | _ => 0

abbrev bufTy : (tb : Table) → Fin (tcTables nBuf tb) → BufTy
  | .hbm, ⟨0, _⟩ => ⟨S10x512x16384, .fp8e4m3⟩
  | .hbm, ⟨1, _⟩ => ⟨S10x512x128, .f32⟩
  | .hbm, ⟨2, _⟩ => ⟨S4x16384x5632, .fp8e4m3⟩
  | .hbm, ⟨3, _⟩ => ⟨S4x128x44, .f32⟩
  | .hbm, ⟨4, _⟩ => ⟨S10x4, .i32⟩
  | .hbm, ⟨5, _⟩ => ⟨S_, .i32⟩
  | .hbm, ⟨6, _⟩ => ⟨S_, .i32⟩
  | .hbm, ⟨7, _⟩ => ⟨S10x4, .i32⟩
  | .hbm, ⟨8, _⟩ => ⟨S10x4, .i32⟩
  | .hbm, ⟨9, _⟩ => ⟨S_, .i32⟩
  | .hbm, ⟨10, _⟩ => ⟨S10x4, .i32⟩
  | .hbm, ⟨11, _⟩ => ⟨S10x4, .i1⟩
  | .hbm, ⟨12, _⟩ => ⟨S10x4, .i32⟩
  | .hbm, ⟨13, _⟩ => ⟨S4, .i32⟩
  | .hbm, ⟨14, _⟩ => ⟨S10x4, .i32⟩
  | .hbm, ⟨15, _⟩ => ⟨S_, .i32⟩
  | .hbm, ⟨16, _⟩ => ⟨S10x4, .i32⟩
  | .hbm, ⟨17, _⟩ => ⟨S10x4, .i1⟩
  | .hbm, ⟨18, _⟩ => ⟨S_, .i32⟩
  | .hbm, ⟨19, _⟩ => ⟨S_, .i32⟩
  | .hbm, ⟨20, _⟩ => ⟨S10x4, .i32⟩
  | .hbm, ⟨21, _⟩ => ⟨S10x4, .i32⟩
  | .hbm, ⟨22, _⟩ => ⟨S_, .i32⟩
  | .hbm, ⟨23, _⟩ => ⟨S_, .i32⟩
  | .hbm, ⟨24, _⟩ => ⟨S10x4, .i32⟩
  | .hbm, ⟨25, _⟩ => ⟨S10x512x8x16, .f32⟩
  | .hbm, ⟨26, _⟩ => ⟨S10x8x512x16, .f32⟩
  | .hbm, ⟨27, _⟩ => ⟨S4x8x16x11x4, .f32⟩
  | .hbm, ⟨28, _⟩ => ⟨S4x8x11x16x4, .f32⟩
  | .hbm, ⟨29, _⟩ => ⟨S10x512x5632, .bf16⟩
  | .local _ .vmem, ⟨0, _⟩ => ⟨S1x512x2048, .fp8e4m3⟩
  | .local _ .vmem, ⟨1, _⟩ => ⟨S1x512x2048, .fp8e4m3⟩
  | .local _ .vmem, ⟨2, _⟩ => ⟨S1x1x512x16, .f32⟩
  | .local _ .vmem, ⟨3, _⟩ => ⟨S1x1x512x16, .f32⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S1x1x1x16x4, .f32⟩
  | .local _ .vmem, ⟨7, _⟩ => ⟨S1x1x1x16x4, .f32⟩
  | .local _ .vmem, ⟨8, _⟩ => ⟨S1x512x512, .bf16⟩
  | .local _ .vmem, ⟨9, _⟩ => ⟨S1x512x512, .bf16⟩
  | .local _ .vmem, ⟨10, _⟩ => ⟨S512x512, .f32⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | _, _ => ⟨S10x512x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_call2_c : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v19 : Ref sig .tc := ⟨.hbm, 29, rfl⟩
abbrev main_v15 : Ref sig .tc := ⟨.smem, 0, rfl⟩
abbrev main_v16 : Ref sig .tc := ⟨.smem, 1, rfl⟩
abbrev main_v17 : Ref sig .tc := ⟨.smem, 2, rfl⟩
abbrev main_v18 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![10, 11, 4, 8], ![false, false, false, false]⟩

abbrev pre0 : Pipeline.Prefetch sig := ⟨4, ![main_v15.idx, main_v16.idx, main_v17.idx, main_v18.idx], fun | 0 => main_v15.names | 1 => main_v16.names | 2 => main_v17.names | 3 => main_v18.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let arg2 : BitVec 32 := BitVec.ofNat 32 (i 2).val
  let v1 : BitVec 32 := Scalar.addi v0 arg2
  let v2 : Index := Scalar.indexCast v1
  ![v2.toNat]
def k0_off2 (i : grid0.Coords) : Fin 1 → Nat :=
  let arg0 : BitVec 32 := BitVec.ofNat 32 (i 0).val
  let c4_i32_5 : BitVec 32 := 4#32
  let v18 : BitVec 32 := Scalar.muli arg0 c4_i32_5
  let arg2 : BitVec 32 := BitVec.ofNat 32 (i 2).val
  let v19 : BitVec 32 := Scalar.addi v18 arg2
  let v20 : Index := Scalar.indexCast v19
  ![v20.toNat]
def k0_cond3 (i : grid0.Coords) : BitVec 1 :=
  let arg2 : BitVec 32 := BitVec.ofNat 32 (i 2).val
  let c3_i32 : BitVec 32 := 3#32
  let v12 : BitVec 1 := Scalar.cmpi .eq arg2 c3_i32
  let arg3 : BitVec 32 := BitVec.ofNat 32 (i 3).val
  let c7_i32 : BitVec 32 := 7#32
  let v13 : BitVec 1 := Scalar.cmpi .eq arg3 c7_i32
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let v2 : Index := Scalar.indexCast v1
  let v3 : BitVec 32 := pf.at 0 (Rect.unit (s := S40) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg3 c7_i32
  let c0_i32_0 : BitVec 32 := 0#32
  let c0_i32_1 : BitVec 32 := 0#32
  ![arg0.toNat, c0_i32_0.toNat, v5.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let v2 : Index := Scalar.indexCast v1
  let v3 : BitVec 32 := pf.at 0 (Rect.unit (s := S40) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg3 c7_i32
  let c0_i32_0 : BitVec 32 := 0#32
  let c0_i32_1 : BitVec 32 := 0#32
  let c0_i32_2 : BitVec 32 := 0#32
  ![arg0.toNat, v5.toNat, c0_i32_0.toNat, c0_i32_1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let v2 : Index := Scalar.indexCast v1
  let v3 : BitVec 32 := pf.at 1 (Rect.unit (s := S40) ![v2.toNat] S1.size (k0_off1_inb i)) numel1_S1
  let c4_i32_0 : BitVec 32 := 4#32
  let v4 : BitVec 32 := Scalar.muli arg0 c4_i32_0
  let v5 : BitVec 32 := Scalar.addi v4 arg2
  let v6 : Index := Scalar.indexCast v5
  let v7 : BitVec 32 := pf.at 0 (Rect.unit (s := S40) ![v6.toNat] S1.size (k0_off1_inb i)) numel1_S1
  let c0_i32 : BitVec 32 := 0#32
  let v8 : BitVec 1 := Scalar.cmpi .sgt v7 c0_i32
  let c7_i32 : BitVec 32 := 7#32
  let v9 : BitVec 32 := Scalar.select v8 arg3 c7_i32
  let c0_i32_1 : BitVec 32 := 0#32
  ![v3.toNat, v9.toNat, arg1.toNat]

def cc0_transform_3 (k0_off1_inb : ∀ i : grid0.Coords, ∀ a, (k0_off1 i) a + S1.size a ≤ S40.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let v2 : Index := Scalar.indexCast v1
  let v3 : BitVec 32 := pf.at 1 (Rect.unit (s := S40) ![v2.toNat] S1.size (k0_off1_inb i)) numel1_S1
  let c4_i32_0 : BitVec 32 := 4#32
  let v4 : BitVec 32 := Scalar.muli arg0 c4_i32_0
  let v5 : BitVec 32 := Scalar.addi v4 arg2
  let v6 : Index := Scalar.indexCast v5
  let v7 : BitVec 32 := pf.at 0 (Rect.unit (s := S40) ![v6.toNat] S1.size (k0_off1_inb i)) numel1_S1
  let c0_i32 : BitVec 32 := 0#32
  let v8 : BitVec 1 := Scalar.cmpi .sgt v7 c0_i32
  let c7_i32 : BitVec 32 := 7#32
  let v9 : BitVec 32 := Scalar.select v8 arg3 c7_i32
  let c0_i32_1 : BitVec 32 := 0#32
  let c0_i32_2 : BitVec 32 := 0#32
  let c0_i32_3 : BitVec 32 := 0#32
  ![v3.toNat, v9.toNat, arg1.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

abbrev stage0_0 : Fin 2 → Memref sig .tc .vmem S1x512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1x16x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]
-- ==== ReferenceIdeal.lean ====
abbrev S10x512x16384 : Shape := ⟨3, ![10, 512, 16384]⟩
abbrev S10x512x128 : Shape := ⟨3, ![10, 512, 128]⟩
abbrev S4x16384x5632 : Shape := ⟨3, ![4, 16384, 5632]⟩
abbrev S4x128x44 : Shape := ⟨3, ![4, 128, 44]⟩
abbrev S10x4 : Shape := ⟨2, ![10, 4]⟩
abbrev S5120x128x128 : Shape := ⟨3, ![5120, 128, 128]⟩
abbrev S5120x128x1 : Shape := ⟨3, ![5120, 128, 1]⟩
abbrev S5120x16384 : Shape := ⟨2, ![5120, 16384]⟩
abbrev S4x128x128x44x128 : Shape := ⟨5, ![4, 128, 128, 44, 128]⟩
abbrev S4x128x1x44x1 : Shape := ⟨5, ![4, 128, 1, 44, 1]⟩
abbrev S_ : Shape := ⟨0, ![]⟩
abbrev S4 : Shape := ⟨1, ![4]⟩
abbrev S10 : Shape := ⟨1, ![10]⟩
abbrev S5120 : Shape := ⟨1, ![5120]⟩
abbrev S1x4 : Shape := ⟨2, ![1, 4]⟩
abbrev S5120x1 : Shape := ⟨2, ![5120, 1]⟩
abbrev S5120x4 : Shape := ⟨2, ![5120, 4]⟩
abbrev S10x5120 : Shape := ⟨2, ![10, 5120]⟩
abbrev S5120x10 : Shape := ⟨2, ![5120, 10]⟩
abbrev S5120x2 : Shape := ⟨2, ![5120, 2]⟩
abbrev S5120x5632 : Shape := ⟨2, ![5120, 5632]⟩
abbrev S1 : Shape := ⟨1, ![1]⟩
abbrev S1x16384x5632 : Shape := ⟨3, ![1, 16384, 5632]⟩
abbrev S16384x5632 : Shape := ⟨2, ![16384, 5632]⟩
abbrev S512 : Shape := ⟨1, ![512]⟩
abbrev S10x1x4 : Shape := ⟨3, ![10, 1, 4]⟩
abbrev S1x512x1 : Shape := ⟨3, ![1, 512, 1]⟩
abbrev S10x512x4 : Shape := ⟨3, ![10, 512, 4]⟩
abbrev S10x512 : Shape := ⟨2, ![10, 512]⟩
abbrev S1x512 : Shape := ⟨2, ![1, 512]⟩
abbrev S10x1 : Shape := ⟨2, ![10, 1]⟩
abbrev S10x512x1 : Shape := ⟨3, ![10, 512, 1]⟩
abbrev S10x512x2 : Shape := ⟨3, ![10, 512, 2]⟩
abbrev S10x512x5632 : Shape := ⟨3, ![10, 512, 5632]⟩

abbrev nBuf : Space → Nat
  | .hbm => 308
  | .vmem => 4
  | .smem => 0
  | _ => 0

abbrev hbmTy0_0 (i : Nat) : BufTy := match i % 128 with
  | 0 => ⟨S10x512x16384, .fp8e4m3⟩
  | 1 => ⟨S10x512x128, .f32⟩
  | 2 => ⟨S4x16384x5632, .fp8e4m3⟩
  | 3 => ⟨S4x128x44, .f32⟩
  | 4 => ⟨S10x4, .i32⟩
  | 5 => ⟨S10x512x16384, .bf16⟩
  | 6 => ⟨S4x16384x5632, .bf16⟩
  | 7 => ⟨S5120x128x128, .bf16⟩
  | 8 => ⟨S5120x128x1, .f32⟩
  | 9 => ⟨S5120x128x1, .bf16⟩
  | 10 => ⟨S5120x128x128, .bf16⟩
  | 11 => ⟨S5120x128x128, .bf16⟩
  | 12 => ⟨S5120x16384, .bf16⟩
  | 13 => ⟨S4x128x128x44x128, .bf16⟩
  | 14 => ⟨S4x128x44, .bf16⟩
  | 15 => ⟨S4x128x1x44x1, .bf16⟩
  | 16 => ⟨S4x128x128x44x128, .bf16⟩
  | 17 => ⟨S4x128x128x44x128, .bf16⟩
  | 18 => ⟨S4x16384x5632, .bf16⟩
  | 19 => ⟨S_, .i32⟩
  | 20 => ⟨S4, .i32⟩
  | 21 => ⟨S_, .i32⟩
  | 22 => ⟨S_, .i32⟩
  | 23 => ⟨S4, .i32⟩
  | 24 => ⟨S4, .i32⟩
  | 25 => ⟨S4, .i32⟩
  | 26 => ⟨S_, .i32⟩
  | 27 => ⟨S_, .i32⟩
  | 28 => ⟨S10x4, .i32⟩
  | 29 => ⟨S10x4, .i32⟩
  | 30 => ⟨S10x4, .i32⟩
  | 31 => ⟨S_, .i32⟩
  | 32 => ⟨S_, .i32⟩
  | 33 => ⟨S10x4, .i32⟩
  | 34 => ⟨S10x4, .i32⟩
  | 35 => ⟨S10x4, .i32⟩
  | 36 => ⟨S_, .i32⟩
  | 37 => ⟨S10, .i32⟩
  | 38 => ⟨S5120, .i32⟩
  | 39 => ⟨S1x4, .i32⟩
  | 40 => ⟨S5120x1, .i32⟩
  | 41 => ⟨S5120x4, .i32⟩
  | 42 => ⟨S5120x4, .i32⟩
  | 43 => ⟨S5120x4, .i1⟩
  | 44 => ⟨S5120x4, .i32⟩
  | 45 => ⟨S_, .i32⟩
  | 46 => ⟨S5120, .i32⟩
  | 47 => ⟨S_, .i32⟩
  | 48 => ⟨S5120, .i32⟩
  | 49 => ⟨S5120, .i32⟩
  | 50 => ⟨S_, .i32⟩
  | 51 => ⟨S5120, .i32⟩
  | 52 => ⟨S5120, .i1⟩
  | 53 => ⟨S_, .i32⟩
  | 54 => ⟨S5120, .i32⟩
  | 55 => ⟨S5120, .i32⟩
  | 56 => ⟨S5120, .i32⟩
  | 57 => ⟨S5120x1, .i32⟩
  | 58 => ⟨S5120, .i32⟩
  | 59 => ⟨S5120, .i32⟩
  | 60 => ⟨S_, .i32⟩
  | 61 => ⟨S5120, .i32⟩
  | 62 => ⟨S5120, .i1⟩
  | 63 => ⟨S_, .i32⟩
  | 64 => ⟨S5120, .i32⟩
  | 65 => ⟨S5120, .i32⟩
  | 66 => ⟨S5120, .i32⟩
  | 67 => ⟨S5120x1, .i32⟩
  | 68 => ⟨S10x5120, .i32⟩
  | 69 => ⟨S5120x10, .i32⟩
  | 70 => ⟨S5120x1, .i32⟩
  | 71 => ⟨S5120x10, .i32⟩
  | 72 => ⟨S5120x10, .i1⟩
  | 73 => ⟨S5120x10, .i32⟩
  | 74 => ⟨S_, .i32⟩
  | 75 => ⟨S5120, .i32⟩
  | 76 => ⟨S_, .i32⟩
  | 77 => ⟨S5120, .i32⟩
  | 78 => ⟨S5120, .i32⟩
  | 79 => ⟨S_, .i32⟩
  | 80 => ⟨S5120, .i32⟩
  | 81 => ⟨S5120, .i32⟩
  | 82 => ⟨S_, .i32⟩
  | 83 => ⟨S5120, .i32⟩
  | 84 => ⟨S5120, .i1⟩
  | 85 => ⟨S_, .i32⟩
  | 86 => ⟨S5120, .i32⟩
  | 87 => ⟨S5120, .i32⟩
  | 88 => ⟨S5120, .i32⟩
  | 89 => ⟨S_, .i32⟩
  | 90 => ⟨S5120, .i32⟩
  | 91 => ⟨S5120, .i1⟩
  | 92 => ⟨S_, .i32⟩
  | 93 => ⟨S5120, .i32⟩
  | 94 => ⟨S5120, .i32⟩
  | 95 => ⟨S5120, .i32⟩
  | 96 => ⟨S5120x1, .i32⟩
  | 97 => ⟨S5120x1, .i32⟩
  | 98 => ⟨S5120x2, .i32⟩
  | 99 => ⟨S5120, .i32⟩
  | 100 => ⟨S5120, .i32⟩
  | 101 => ⟨S_, .i32⟩
  | 102 => ⟨S5120, .i32⟩
  | 103 => ⟨S5120, .i1⟩
  | 104 => ⟨S_, .i32⟩
  | 105 => ⟨S5120, .i32⟩
  | 106 => ⟨S5120, .i32⟩
  | 107 => ⟨S5120, .i32⟩
  | 108 => ⟨S_, .i32⟩
  | 109 => ⟨S5120, .i32⟩
  | 110 => ⟨S5120, .i1⟩
  | 111 => ⟨S_, .i32⟩
  | 112 => ⟨S5120, .i32⟩
  | 113 => ⟨S5120, .i32⟩
  | 114 => ⟨S5120, .i32⟩
  | 115 => ⟨S5120x1, .i32⟩
  | 116 => ⟨S5120x1, .i32⟩
  | 117 => ⟨S5120x2, .i32⟩
  | 118 => ⟨S5120, .i32⟩
  | 119 => ⟨S5120, .i32⟩
  | 120 => ⟨S5120, .i32⟩
  | 121 => ⟨S_, .i32⟩
  | 122 => ⟨S_, .i32⟩
  | 123 => ⟨S_, .i32⟩
  | 124 => ⟨S5120, .i32⟩
  | 125 => ⟨S5120, .i32⟩
  | 126 => ⟨S_, .i32⟩
  | 127 => ⟨S5120, .i32⟩
  | _ => ⟨S10x512x16384, .fp8e4m3⟩

abbrev hbmTy0_1 (i : Nat) : BufTy := match i % 128 with
  | 0 => ⟨S5120, .i32⟩
  | 1 => ⟨S_, .i32⟩
  | 2 => ⟨S5120, .i32⟩
  | 3 => ⟨S5120, .i1⟩
  | 4 => ⟨S_, .i32⟩
  | 5 => ⟨S5120, .i32⟩
  | 6 => ⟨S5120, .i32⟩
  | 7 => ⟨S5120, .i32⟩
  | 8 => ⟨S5120x1, .i32⟩
  | 9 => ⟨S5120x16384, .bf16⟩
  | 10 => ⟨S_, .f32⟩
  | 11 => ⟨S5120x5632, .f32⟩
  | 12 => ⟨S1, .i32⟩
  | 13 => ⟨S_, .i32⟩
  | 14 => ⟨S5120, .i32⟩
  | 15 => ⟨S5120, .i1⟩
  | 16 => ⟨S1, .i32⟩
  | 17 => ⟨S_, .i32⟩
  | 18 => ⟨S5120, .i32⟩
  | 19 => ⟨S5120, .i1⟩
  | 20 => ⟨S5120, .i1⟩
  | 21 => ⟨S5120x1, .i1⟩
  | 22 => ⟨S_, .i32⟩
  | 23 => ⟨S_, .bf16⟩
  | 24 => ⟨S5120x16384, .i1⟩
  | 25 => ⟨S5120x16384, .bf16⟩
  | 26 => ⟨S5120x16384, .bf16⟩
  | 27 => ⟨S1x16384x5632, .bf16⟩
  | 28 => ⟨S16384x5632, .bf16⟩
  | 29 => ⟨S5120x5632, .f32⟩
  | 30 => ⟨S5120x5632, .f32⟩
  | 31 => ⟨S1, .i32⟩
  | 32 => ⟨S_, .i32⟩
  | 33 => ⟨S5120, .i32⟩
  | 34 => ⟨S5120, .i1⟩
  | 35 => ⟨S1, .i32⟩
  | 36 => ⟨S_, .i32⟩
  | 37 => ⟨S5120, .i32⟩
  | 38 => ⟨S5120, .i1⟩
  | 39 => ⟨S5120, .i1⟩
  | 40 => ⟨S5120x1, .i1⟩
  | 41 => ⟨S_, .i32⟩
  | 42 => ⟨S_, .bf16⟩
  | 43 => ⟨S5120x16384, .i1⟩
  | 44 => ⟨S5120x16384, .bf16⟩
  | 45 => ⟨S5120x16384, .bf16⟩
  | 46 => ⟨S1x16384x5632, .bf16⟩
  | 47 => ⟨S16384x5632, .bf16⟩
  | 48 => ⟨S5120x5632, .f32⟩
  | 49 => ⟨S5120x5632, .f32⟩
  | 50 => ⟨S1, .i32⟩
  | 51 => ⟨S_, .i32⟩
  | 52 => ⟨S5120, .i32⟩
  | 53 => ⟨S5120, .i1⟩
  | 54 => ⟨S1, .i32⟩
  | 55 => ⟨S_, .i32⟩
  | 56 => ⟨S5120, .i32⟩
  | 57 => ⟨S5120, .i1⟩
  | 58 => ⟨S5120, .i1⟩
  | 59 => ⟨S5120x1, .i1⟩
  | 60 => ⟨S_, .i32⟩
  | 61 => ⟨S_, .bf16⟩
  | 62 => ⟨S5120x16384, .i1⟩
  | 63 => ⟨S5120x16384, .bf16⟩
  | 64 => ⟨S5120x16384, .bf16⟩
  | 65 => ⟨S1x16384x5632, .bf16⟩
  | 66 => ⟨S16384x5632, .bf16⟩
  | 67 => ⟨S5120x5632, .f32⟩
  | 68 => ⟨S5120x5632, .f32⟩
  | 69 => ⟨S1, .i32⟩
  | 70 => ⟨S_, .i32⟩
  | 71 => ⟨S5120, .i32⟩
  | 72 => ⟨S5120, .i1⟩
  | 73 => ⟨S1, .i32⟩
  | 74 => ⟨S_, .i32⟩
  | 75 => ⟨S5120, .i32⟩
  | 76 => ⟨S5120, .i1⟩
  | 77 => ⟨S5120, .i1⟩
  | 78 => ⟨S5120x1, .i1⟩
  | 79 => ⟨S_, .i32⟩
  | 80 => ⟨S_, .bf16⟩
  | 81 => ⟨S5120x16384, .i1⟩
  | 82 => ⟨S5120x16384, .bf16⟩
  | 83 => ⟨S5120x16384, .bf16⟩
  | 84 => ⟨S1x16384x5632, .bf16⟩
  | 85 => ⟨S16384x5632, .bf16⟩
  | 86 => ⟨S5120x5632, .f32⟩
  | 87 => ⟨S5120x5632, .f32⟩
  | 88 => ⟨S512, .i32⟩
  | 89 => ⟨S10x1x4, .i32⟩
  | 90 => ⟨S1x512x1, .i32⟩
  | 91 => ⟨S10x512x4, .i32⟩
  | 92 => ⟨S10x512x4, .i32⟩
  | 93 => ⟨S10x512x4, .i1⟩
  | 94 => ⟨S10x512x4, .i32⟩
  | 95 => ⟨S_, .i32⟩
  | 96 => ⟨S10x512, .i32⟩
  | 97 => ⟨S_, .i32⟩
  | 98 => ⟨S10x512, .i32⟩
  | 99 => ⟨S10x512, .i32⟩
  | 100 => ⟨S1x512, .i32⟩
  | 101 => ⟨S10x1, .i32⟩
  | 102 => ⟨S10x512, .i32⟩
  | 103 => ⟨S10x512, .i32⟩
  | 104 => ⟨S10x512, .i1⟩
  | 105 => ⟨S10, .i32⟩
  | 106 => ⟨S10x1, .i32⟩
  | 107 => ⟨S_, .i32⟩
  | 108 => ⟨S10x512, .i32⟩
  | 109 => ⟨S10x512, .i1⟩
  | 110 => ⟨S_, .i32⟩
  | 111 => ⟨S10x512, .i32⟩
  | 112 => ⟨S10x512, .i32⟩
  | 113 => ⟨S10x512, .i32⟩
  | 114 => ⟨S10x512x1, .i32⟩
  | 115 => ⟨S10x512, .i32⟩
  | 116 => ⟨S_, .i32⟩
  | 117 => ⟨S10x1, .i32⟩
  | 118 => ⟨S10x1, .i1⟩
  | 119 => ⟨S_, .i32⟩
  | 120 => ⟨S10x1, .i32⟩
  | 121 => ⟨S10x1, .i32⟩
  | 122 => ⟨S10x1, .i32⟩
  | 123 => ⟨S_, .i32⟩
  | 124 => ⟨S10x512, .i32⟩
  | 125 => ⟨S10x512, .i1⟩
  | 126 => ⟨S_, .i32⟩
  | 127 => ⟨S10x512, .i32⟩
  | _ => ⟨S10x512x16384, .fp8e4m3⟩

abbrev hbmTy0_2 (i : Nat) : BufTy := match i % 128 with
  | 0 => ⟨S10x512, .i32⟩
  | 1 => ⟨S10x512, .i32⟩
  | 2 => ⟨S10x512, .i32⟩
  | 3 => ⟨S10x512x1, .i32⟩
  | 4 => ⟨S10x512x1, .i32⟩
  | 5 => ⟨S10x512x2, .i32⟩
  | 6 => ⟨S10x512, .i32⟩
  | 7 => ⟨S10x512, .i32⟩
  | 8 => ⟨S1x512, .i32⟩
  | 9 => ⟨S_, .i32⟩
  | 10 => ⟨S10x1, .i32⟩
  | 11 => ⟨S10x1, .i1⟩
  | 12 => ⟨S_, .i32⟩
  | 13 => ⟨S10x1, .i32⟩
  | 14 => ⟨S10x1, .i32⟩
  | 15 => ⟨S10x1, .i32⟩
  | 16 => ⟨S_, .i32⟩
  | 17 => ⟨S10x512, .i32⟩
  | 18 => ⟨S10x512, .i1⟩
  | 19 => ⟨S_, .i32⟩
  | 20 => ⟨S10x512, .i32⟩
  | 21 => ⟨S10x512, .i32⟩
  | 22 => ⟨S10x512, .i32⟩
  | 23 => ⟨S10x512, .i32⟩
  | 24 => ⟨S10x512x1, .i32⟩
  | 25 => ⟨S10x512x1, .i32⟩
  | 26 => ⟨S10x512x2, .i32⟩
  | 27 => ⟨S10x512, .i32⟩
  | 28 => ⟨S10x512, .i32⟩
  | 29 => ⟨S10x512, .i32⟩
  | 30 => ⟨S10x512, .i32⟩
  | 31 => ⟨S_, .i32⟩
  | 32 => ⟨S10x512, .i32⟩
  | 33 => ⟨S10x512, .i32⟩
  | 34 => ⟨S5120, .i32⟩
  | 35 => ⟨S_, .i32⟩
  | 36 => ⟨S5120, .i32⟩
  | 37 => ⟨S5120, .i1⟩
  | 38 => ⟨S_, .i32⟩
  | 39 => ⟨S5120, .i32⟩
  | 40 => ⟨S5120, .i32⟩
  | 41 => ⟨S5120, .i32⟩
  | 42 => ⟨S5120x1, .i32⟩
  | 43 => ⟨S5120x5632, .f32⟩
  | 44 => ⟨S5120x1, .i1⟩
  | 45 => ⟨S_, .f32⟩
  | 46 => ⟨S_, .f32⟩
  | 47 => ⟨S5120x5632, .i1⟩
  | 48 => ⟨S5120x5632, .f32⟩
  | 49 => ⟨S5120x5632, .f32⟩
  | 50 => ⟨S10x512x5632, .f32⟩
  | 51 => ⟨S10x512x5632, .bf16⟩
  | _ => ⟨S10x512x16384, .fp8e4m3⟩

abbrev hbmTy (i : Nat) : BufTy := match i / 128 with
  | 0 => hbmTy0_0 i
  | 1 => hbmTy0_1 i
  | 2 => hbmTy0_2 i
  | _ => ⟨S10x512x16384, .fp8e4m3⟩

abbrev bufTy : (tb : Table) → Fin (tcTables nBuf tb) → BufTy
  | .hbm, ⟨i, _⟩ => hbmTy i
  | .local _ .vmem, ⟨0, _⟩ => ⟨S10x512x16384, .fp8e4m3⟩
  | .local _ .vmem, ⟨1, _⟩ => ⟨S4x16384x5632, .fp8e4m3⟩
  | .local _ .vmem, ⟨2, _⟩ => ⟨S10x512x16384, .bf16⟩
  | .local _ .vmem, ⟨3, _⟩ => ⟨S4x16384x5632, .bf16⟩
  | _, _ => ⟨S10x512x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call0_call0_c : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_call0_c : Ref sig .tc := ⟨.hbm, 26, rfl⟩
abbrev main_call1_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_call0_c : Ref sig .tc := ⟨.hbm, 31, rfl⟩
abbrev main_call2_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_1 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_c_19 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v90 : Ref sig .tc := ⟨.hbm, 128, rfl⟩
abbrev main_c_20 : Ref sig .tc := ⟨.hbm, 129, rfl⟩
abbrev main_v91 : Ref sig .tc := ⟨.hbm, 130, rfl⟩
abbrev main_v92 : Ref sig .tc := ⟨.hbm, 131, rfl⟩
abbrev main_c_21 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_22 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_23 : Ref sig .tc := ⟨.hbm, 169, rfl⟩
abbrev main_call5_v0 : Ref sig .tc := ⟨.hbm, 170, rfl⟩
abbrev main_call5_v1 : Ref sig .tc := ⟨.hbm, 171, rfl⟩
abbrev main_call5_v2 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_c_24 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_25 : Ref sig .tc := ⟨.hbm, 207, rfl⟩
abbrev main_call7_v0 : Ref sig .tc := ⟨.hbm, 208, rfl⟩
abbrev main_call7_v1 : Ref sig .tc := ⟨.hbm, 209, rfl⟩
abbrev main_call7_v2 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_c_26 : Ref sig .tc := ⟨.hbm, 223, rfl⟩
abbrev main_v166 : Ref sig .tc := ⟨.hbm, 224, rfl⟩
abbrev main_c_27 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_c_28 : Ref sig .tc := ⟨.hbm, 235, rfl⟩
abbrev main_v176 : Ref sig .tc := ⟨.hbm, 236, rfl⟩
abbrev main_v177 : Ref sig .tc := ⟨.hbm, 237, rfl⟩
abbrev main_c_29 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_30 : Ref sig .tc := ⟨.hbm, 244, rfl⟩
abbrev main_v183 : Ref sig .tc := ⟨.hbm, 245, rfl⟩
abbrev main_v184 : Ref sig .tc := ⟨.hbm, 246, rfl⟩
abbrev main_c_31 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_c_32 : Ref sig .tc := ⟨.hbm, 251, rfl⟩
abbrev main_v188 : Ref sig .tc := ⟨.hbm, 252, rfl⟩
abbrev main_v189 : Ref sig .tc := ⟨.hbm, 253, rfl⟩
abbrev main_c_33 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_c_34 : Ref sig .tc := ⟨.hbm, 265, rfl⟩
abbrev main_v200 : Ref sig .tc := ⟨.hbm, 266, rfl⟩
abbrev main_v201 : Ref sig .tc := ⟨.hbm, 267, rfl⟩
abbrev main_c_35 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_c_36 : Ref sig .tc := ⟨.hbm, 272, rfl⟩
abbrev main_v205 : Ref sig .tc := ⟨.hbm, 273, rfl⟩
abbrev main_v206 : Ref sig .tc := ⟨.hbm, 274, rfl⟩
abbrev main_c_37 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_c_38 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_c_39 : Ref sig .tc := ⟨.hbm, 291, rfl⟩
abbrev main_v221 : Ref sig .tc := ⟨.hbm, 292, rfl⟩
abbrev main_v222 : Ref sig .tc := ⟨.hbm, 293, rfl⟩
abbrev main_c_40 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_41 : Ref sig .tc := ⟨.hbm, 301, rfl⟩
abbrev main_call8_v0 : Ref sig .tc := ⟨.hbm, 302, rfl⟩
abbrev main_call8_v1 : Ref sig .tc := ⟨.hbm, 303, rfl⟩
abbrev main_call8_v2 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10x512x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x512x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.Runs.lean ====
/- What the runs of the kernel's frame share: the buffers when the region is entered, the prefetched tables, the blocks,
   the conditions of the body's branches in closed form, the staging and scratch memrefs. Follows the generated module of
   the same content, whose split of the four tables (`PhiT0_eq`) does not parse for more than two tables: here it is
   bracketed. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_v15
abbrev htbM0_0 : tbM0_0.IsWhole := Memref.isWhole_whole _
abbrev tbM0_1 : Memref sig .tc .smem S40 .i32 := Memref.whole main_v16
abbrev htbM0_1 : tbM0_1.IsWhole := Memref.isWhole_whole _
abbrev tbM0_2 : Memref sig .tc .smem S40 .i32 := Memref.whole main_v17
abbrev htbM0_2 : tbM0_2.IsWhole := Memref.isWhole_whole _
abbrev tbM0_3 : Memref sig .tc .smem S40 .i32 := Memref.whole main_v18
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 2).val) 0#32) (Scalar.cmpi .eq (BitVec.ofNat 32 (i 3).val) 0#32))) 0#32) = 1#1
/-- It holds at the points ≡ 0 (mod 32) — by arithmetic of the point. -/
theorem hcond0_0 : ∀ t : Fin grid0.N, cond0_0 (grid0.coords t) ↔ t.val % 32 = 0 :=
  (fun t => by
    have ht : t.val < 3520 := Nat.lt_of_lt_of_eq t.isLt N_0
    have e0 : (grid0.coords t 0).val = t.val / 352 % 10 := Pipeline.Grid.coords_val t 0 (by decide) rfl
    have e1 : (grid0.coords t 1).val = t.val / 32 % 11 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 32 = 0)

/-- The condition of the body's `scf.if` 1: over WORDS the body reads from its tables or input SMEM windows
    (`v8`), so no function of the point — a case variable: a hypothesis of each run, a `by_cases`
    of the obligation and an `if` of `outsAt`, stated over the argument blocks' words there. -/
abbrev cond0_1 (i : grid0.Coords) (v8 : BitVec 32) : Prop := (Scalar.cmpi .ne (Scalar.extui (Scalar.cmpi .sgt v8 0#32)) 0#32) = 1#1

/-- The condition of the body's `scf.if` 2 (`k0_h3`), from the grid coordinates (the skeleton's scalar
    chain substituted). -/
abbrev cond0_2 (i : grid0.Coords) : Prop := k0_cond3 i = 1#1
/-- It holds at the points ≡ 31 (mod 32) — by arithmetic of the point. -/
theorem hcond0_2 : ∀ t : Fin grid0.N, cond0_2 (grid0.coords t) ↔ t.val % 32 = 31 :=
  (fun t => by
    have ht : t.val < 3520 := Nat.lt_of_lt_of_eq t.isLt N_0
    have e0 : (grid0.coords t 0).val = t.val / 352 % 10 := Pipeline.Grid.coords_val t 0 (by decide) rfl
    have e1 : (grid0.coords t 1).val = t.val / 32 % 11 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_2, k0_cond3, e0, e1, e2, e3]
    word_cmp
   : ∀ t : Fin grid0.N, cond0_2 (grid0.coords t) ↔ t.val % 32 = 31)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- At the points of case A the printed configuration (`Cfg.idle`) calls output 4 idle: the case stores nothing into it. -/
theorem idleAt0_4_A (hO : Ok m) : ∀ t : Fin (cfgM m hO).N, cond0_0 (grid0.coords t) → ¬cond0_2 (grid0.coords t) → (cfgM m hO).idle 4 (grid0.coords t) = true :=
  (by decide +kernel : ∀ t : Fin grid0.N, cond0_0 (grid0.coords t) → ¬cond0_2 (grid0.coords t) → idle0 4 (grid0.coords t) = true)
/-- At the points of case A the pipeline does not write output 4's block back. -/
theorem noFlush0_4_A (hO : Ok m) : ∀ t : Fin (cfgM m hO).N, cond0_0 (grid0.coords t) → ¬cond0_2 (grid0.coords t) → ((cfgM m hO).win 4).flush t = false :=
  (by decide +kernel : ∀ t : Fin grid0.N, cond0_0 (grid0.coords t) → ¬cond0_2 (grid0.coords t) → Pipeline.Window.flushOf grid0 true cc0_transform_4 t = false)
/-- At the points of case B the printed configuration (`Cfg.idle`) calls output 4 idle: the case stores nothing into it. -/
theorem idleAt0_4_B (hO : Ok m) : ∀ t : Fin (cfgM m hO).N, cond0_0 (grid0.coords t) → ¬cond0_2 (grid0.coords t) → (cfgM m hO).idle 4 (grid0.coords t) = true :=
  (by decide +kernel : ∀ t : Fin grid0.N, cond0_0 (grid0.coords t) → ¬cond0_2 (grid0.coords t) → idle0 4 (grid0.coords t) = true)
/-- At the points of case B the pipeline does not write output 4's block back. -/
theorem noFlush0_4_B (hO : Ok m) : ∀ t : Fin (cfgM m hO).N, cond0_0 (grid0.coords t) → ¬cond0_2 (grid0.coords t) → ((cfgM m hO).win 4).flush t = false :=
  (by decide +kernel : ∀ t : Fin grid0.N, cond0_0 (grid0.coords t) → ¬cond0_2 (grid0.coords t) → Pipeline.Window.flushOf grid0 true cc0_transform_4 t = false)
/-- At the points of case C the printed configuration (`Cfg.idle`) calls output 4 idle: the case stores nothing into it. -/
theorem idleAt0_4_C (hO : Ok m) : ∀ t : Fin (cfgM m hO).N, ¬cond0_0 (grid0.coords t) → ¬cond0_2 (grid0.coords t) → (cfgM m hO).idle 4 (grid0.coords t) = true :=
  (by decide +kernel : ∀ t : Fin grid0.N, ¬cond0_0 (grid0.coords t) → ¬cond0_2 (grid0.coords t) → idle0 4 (grid0.coords t) = true)
/-- At the points of case C the pipeline does not write output 4's block back. -/
theorem noFlush0_4_C (hO : Ok m) : ∀ t : Fin (cfgM m hO).N, ¬cond0_0 (grid0.coords t) → ¬cond0_2 (grid0.coords t) → ((cfgM m hO).win 4).flush t = false :=
  (by decide +kernel : ∀ t : Fin grid0.N, ¬cond0_0 (grid0.coords t) → ¬cond0_2 (grid0.coords t) → Pipeline.Window.flushOf grid0 true cc0_transform_4 t = false)
/-- At the points of case D the printed configuration (`Cfg.idle`) calls output 4 idle: the case stores nothing into it. -/
theorem idleAt0_4_D (hO : Ok m) : ∀ t : Fin (cfgM m hO).N, ¬cond0_0 (grid0.coords t) → ¬cond0_2 (grid0.coords t) → (cfgM m hO).idle 4 (grid0.coords t) = true :=
  (by decide +kernel : ∀ t : Fin grid0.N, ¬cond0_0 (grid0.coords t) → ¬cond0_2 (grid0.coords t) → idle0 4 (grid0.coords t) = true)
/-- At the points of case D the pipeline does not write output 4's block back. -/
theorem noFlush0_4_D (hO : Ok m) : ∀ t : Fin (cfgM m hO).N, ¬cond0_0 (grid0.coords t) → ¬cond0_2 (grid0.coords t) → ((cfgM m hO).win 4).flush t = false :=
  (by decide +kernel : ∀ t : Fin grid0.N, ¬cond0_0 (grid0.coords t) → ¬cond0_2 (grid0.coords t) → Pipeline.Window.flushOf grid0 true cc0_transform_4 t = false)
/-- At the points of case E the printed configuration (`Cfg.idle`) calls output 4 live: the case stores into it. -/
theorem liveAt0_4_E (hO : Ok m) : ∀ t : Fin (cfgM m hO).N, ¬cond0_0 (grid0.coords t) → cond0_2 (grid0.coords t) → (cfgM m hO).idle 4 (grid0.coords t) = false :=
  (by decide +kernel : ∀ t : Fin grid0.N, ¬cond0_0 (grid0.coords t) → cond0_2 (grid0.coords t) → idle0 4 (grid0.coords t) = false)
/-- At the points of case F the printed configuration (`Cfg.idle`) calls output 4 live: the case stores into it. -/
theorem liveAt0_4_F (hO : Ok m) : ∀ t : Fin (cfgM m hO).N, ¬cond0_0 (grid0.coords t) → cond0_2 (grid0.coords t) → (cfgM m hO).idle 4 (grid0.coords t) = false :=
  (by decide +kernel : ∀ t : Fin grid0.N, ¬cond0_0 (grid0.coords t) → cond0_2 (grid0.coords t) → idle0 4 (grid0.coords t) = false)

/-! ## The kernel body on any staging memrefs: a subtype the run finds -/

/-- One staging buffer of output window 4, through which its contents are stated (`View.read_writes_of_cover`: the
    choice does not matter). -/
abbrev VO0_4 : View sig .tc .vmem S1x512x512 .bf16 := (Memref.whole cc0_stg4_0 : Memref sig .tc .vmem S1x512x512 .bf16).view
/-- Each window's current staging memref at point `t`, spelled as the pipeline passes it (`bodyAt0`), and its wholeness. -/
abbrev ms0_0 (hO : Ok m) (t : Fin (cfgM m hO).N) : Memref sig .tc .vmem S1x512x2048 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512x16 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x16x4 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x512 .f32 := Memref.whole cc0_scratch0
/-- The scratch `arg13` the kernel carries between points, as a view: what it holds is stated through it. -/
abbrev VS0_0 : View sig .tc .vmem S512x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KernelFrame.RunA.lean ====
/- The whole-body run of the kernel in case A of its three conditions (`Gen.kernelRun0_A`): the pieces each buffer ends
   with are the witness the run finds. Follows the generated module of the same content. -/
module

public import proofs.«01_k».proof.Proof.KernelFrame.Runs

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 32, … 3488: 110 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ d, owns (c : Thread nD τ) arg13 fullShare d) ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.Kernel.Gen

end
-- ==== Proof.KernelFrame.RunB.lean ====
/- The whole-body run of the kernel in case B of its three conditions (`Gen.kernelRun0_B`): the pieces each buffer ends
   with are the witness the run finds. Follows the generated module of the same content. -/
module

public import proofs.«01_k».proof.Proof.KernelFrame.RunA

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 not taken, `scf.if` 2 not taken: points 0, 32, … 3488: 110 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ d, owns (c : Thread nD τ) arg13 fullShare d) ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.Kernel.Gen

end
-- ==== Proof.KernelFrame.RunC.lean ====
/- The whole-body run of the kernel in case C of its three conditions (`Gen.kernelRun0_C`): the pieces each buffer ends
   with are the witness the run finds. Follows the generated module of the same content. -/
module

public import proofs.«01_k».proof.Proof.KernelFrame.RunB

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 1, 2, … 3518: 3300 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.Kernel.Gen

end
-- ==== Proof.KernelFrame.RunD.lean ====
/- The whole-body run of the kernel in case D of its three conditions (`Gen.kernelRun0_D`): the pieces each buffer ends
   with are the witness the run finds. Follows the generated module of the same content. -/
module

public import proofs.«01_k».proof.Proof.KernelFrame.RunC

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken: points 1, 2, … 3518: 3300 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], [], fun xi4 E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]
    · iexists _; isplitr; · ipureintro; exact harg13.read_unread _
      iexact HS0
    isplitl [HT0]; · iexact HT0
    isplitl [HT1]; · iexact HT1
    isplitl [HT2]; · iexact HT2
    iexact HT3

end Cert.Kernel.Gen

end
-- ==== Proof.KernelFrame.RunE.lean ====
/- The whole-body run of the kernel in case E of its three conditions (`Gen.kernelRun0_E`): the pieces each buffer ends
   with are the witness the run finds. Follows the generated module of the same content. -/
module

public import proofs.«01_k».proof.Proof.KernelFrame.RunD

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 taken, `scf.if` 2 taken: points 31, 63, … 3519: 110 of 3520), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ (∃ f, arg12.view.loc (c : Thread nD τ) ↦[arg12.view.set]{fullShare} arg12.view.writes (Elt F) f L4) ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨?_, ?_, fun E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]; · iexists _; iexact H4
    isplitl [HS0]; · iexists _; iexact HS0
    isplitl [HT0]; · iexact HT0
    isplitl [HT1]; · iexact HT1
    isplitl [HT2]; · iexact HT2
    iexact HT3

end Cert.Kernel.Gen

end
-- ==== Proof.KernelFrame.RunF.lean ====
/- The whole-body run of the kernel in case F of its three conditions (`Gen.kernelRun0_F`): the pieces each buffer ends
   with are the witness the run finds. Follows the generated module of the same content. -/
module

public import proofs.«01_k».proof.Proof.KernelFrame.RunE

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 1 not taken, `scf.if` 2 taken: points 31, 63, … 3519: 110 of 3520), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_F (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ (∃ f, arg12.view.loc (c : Thread nD τ) ↦[arg12.view.set]{fullShare} arg12.view.writes (Elt F) f L4) ∗ owns (c : Thread nD τ) arg13 fullShare xs0 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨?_, [], fun E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]; · iexists _; iexact H4
    isplitl [HS0]
    · iexists _; isplitr; · ipureintro; exact harg13.read_unread _
      iexact HS0
    isplitl [HT0]; · iexact HT0
    isplitl [HT1]; · iexact HT1
    isplitl [HT2]; · iexact HT2
    iexact HT3

end Cert.Kernel.Gen

end
-- ==== Proof.KernelFrame.Outs.lean ====
/- The kernel's frame: what the output block and the carried accumulator hold case by case and point by point
   (`Gen.outsAt0`), the proof data (`Gen.dats`), the body's obligation, the run (`Gen.run_main`) and `Gen.frame`.
   Follows the generated module of the same content over the runs of this directory. -/
module

public import proofs.«01_k».proof.Proof.KernelFrame.RunF
public import Idealize.ShloMosaic.Lib.Claim

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_A c i arg8 harg8 arg9 harg9 arg10 harg10 arg11 harg11 arg12 harg12 arg13 harg13 hc0 hc2 x0 x1 x2 x3 xt0 xt1 xt2 xt3 hc1).1)

/-- Case A's pieces for scratch `arg13`, which the kernel carries between points, cover it: 2 pieces of `S512x512` tiling it (Lib/Ring.lean `Piece.tiledL`). -/
theorem scover0_A_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_A c i arg8 harg8 arg9 harg9 arg10 harg10 arg11 harg11 arg12 harg12 arg13 harg13 hc0 hc2 x0 x1 x2 x3 xt0 xt1 xt2 xt3 hc1).2.1, y ∈ pc.1.set :=
  View.cover_of_tiledL (kernelRun0_A c i arg8 harg8 arg9 harg9 arg10 harg10 arg11 harg11 arg12 harg12 arg13 harg13 hc0 hc2 x0 x1 x2 x3 xt0 xt1 xt2 xt3 hc1).2.1 S512x512.size (by sl_kernel_rfl) y

/-- What case A leaves in scratch `arg13`: its pieces read back over junk. -/
def sout0_A_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_A c i arg8 harg8 arg9 harg9 arg10 harg10 arg11 harg11 arg12 harg12 arg13 harg13 hc0 hc2 x0 x1 x2 x3 xt0 xt1 xt2 xt3 hc1).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_B c i arg8 harg8 arg9 harg9 arg10 harg10 arg11 harg11 arg12 harg12 arg13 harg13 hc0 hc2 x0 x1 x2 x3 xt0 xt1 xt2 xt3 hc1).1)

/-- Case B's pieces for scratch `arg13`, which the kernel carries between points, cover it: 1 piece of `S512x512` tiling it (Lib/Ring.lean `Piece.tiledL`). -/
theorem scover0_B_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_B c i arg8 harg8 arg9 harg9 arg10 harg10 arg11 harg11 arg12 harg12 arg13 harg13 hc0 hc2 x0 x1 x2 x3 xt0 xt1 xt2 xt3 hc1).2.1, y ∈ pc.1.set :=
  View.cover_of_tiledL (kernelRun0_B c i arg8 harg8 arg9 harg9 arg10 harg10 arg11 harg11 arg12 harg12 arg13 harg13 hc0 hc2 x0 x1 x2 x3 xt0 xt1 xt2 xt3 hc1).2.1 S512x512.size (by sl_kernel_rfl) y

/-- What case B leaves in scratch `arg13`: its pieces read back over junk. -/
def sout0_B_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_B c i arg8 harg8 arg9 harg9 arg10 harg10 arg11 harg11 arg12 harg12 arg13 harg13 hc0 hc2 x0 x1 x2 x3 xt0 xt1 xt2 xt3 hc1).2.1)

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_C c i arg8 harg8 arg9 harg9 arg10 harg10 arg11 harg11 arg12 harg12 arg13 harg13 hc0 hc2 x0 x1 x2 x3 xt0 xt1 xt2 xt3 xs0 hc1).1)

/-- Case C's pieces for scratch `arg13`, which the kernel carries between points, cover it: 1 piece of `S512x512` tiling it (Lib/Ring.lean `Piece.tiledL`). -/
theorem scover0_C_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_C c i arg8 harg8 arg9 harg9 arg10 harg10 arg11 harg11 arg12 harg12 arg13 harg13 hc0 hc2 x0 x1 x2 x3 xt0 xt1 xt2 xt3 xs0 hc1).2.1, y ∈ pc.1.set :=
  View.cover_of_tiledL (kernelRun0_C c i arg8 harg8 arg9 harg9 arg10 harg10 arg11 harg11 arg12 harg12 arg13 harg13 hc0 hc2 x0 x1 x2 x3 xt0 xt1 xt2 xt3 xs0 hc1).2.1 S512x512.size (by sl_kernel_rfl) y

/-- What case C leaves in scratch `arg13`: its pieces read back over junk. -/
def sout0_C_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_C c i arg8 harg8 arg9 harg9 arg10 harg10 arg11 harg11 arg12 harg12 arg13 harg13 hc0 hc2 x0 x1 x2 x3 xt0 xt1 xt2 xt3 xs0 hc1).2.1)

/-- Case D stores nothing into output 4 (the window is idle at its points and not written back there):
    no pieces — a placeholder (junk read back) that nothing consults, since at these points the window is neither
    written back nor read at the next point (Lib/Pipeline.lean "Idle points"). -/
def out0_D_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_D c i arg8 harg8 arg9 harg9 arg10 harg10 arg11 harg11 arg12 harg12 arg13 harg13 hc0 hc2 x0 x1 x2 x3 xt0 xt1 xt2 xt3 xs0 hc1).1)

/-- Case D stores nothing into scratch `arg13`: it holds what the point before left. -/
def sout0_D_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 := xs0

/-- Case E's pieces for output 4 tile its block (1 store of `S1x512x512`, checked by the kernel's evaluation: Lib/Ring.lean `Piece.tiledL`, linear in the pieces, through a loop's `@[irreducible]` trip theorem too), so they cover it. -/
theorem cover0_E_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S1x512x512.Idx) :
    ∃ pc ∈ (kernelRun0_E c i arg8 harg8 arg9 harg9 arg10 harg10 arg11 harg11 arg12 harg12 arg13 harg13 hc0 hc2 x0 x1 x2 x3 xt0 xt1 xt2 xt3 xs0 hc1).1, y ∈ pc.1.set :=
  View.cover_of_tiledL (kernelRun0_E c i arg8 harg8 arg9 harg9 arg10 harg10 arg11 harg11 arg12 harg12 arg13 harg13 hc0 hc2 x0 x1 x2 x3 xt0 xt1 xt2 xt3 xs0 hc1).1 S1x512x512.size (by sl_kernel_rfl) y

/-- What case E leaves in output 4's staging buffer: its pieces read back over junk. -/
def out0_E_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_E c i arg8 harg8 arg9 harg9 arg10 harg10 arg11 harg11 arg12 harg12 arg13 harg13 hc0 hc2 x0 x1 x2 x3 xt0 xt1 xt2 xt3 xs0 hc1).1)

/-- Case E's pieces for scratch `arg13`, which the kernel carries between points, cover it: 1 piece of `S512x512` tiling it (Lib/Ring.lean `Piece.tiledL`). -/
theorem scover0_E_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_E c i arg8 harg8 arg9 harg9 arg10 harg10 arg11 harg11 arg12 harg12 arg13 harg13 hc0 hc2 x0 x1 x2 x3 xt0 xt1 xt2 xt3 xs0 hc1).2.1, y ∈ pc.1.set :=
  View.cover_of_tiledL (kernelRun0_E c i arg8 harg8 arg9 harg9 arg10 harg10 arg11 harg11 arg12 harg12 arg13 harg13 hc0 hc2 x0 x1 x2 x3 xt0 xt1 xt2 xt3 xs0 hc1).2.1 S512x512.size (by sl_kernel_rfl) y

/-- What case E leaves in scratch `arg13`: its pieces read back over junk. -/
def sout0_E_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_E c i arg8 harg8 arg9 harg9 arg10 harg10 arg11 harg11 arg12 harg12 arg13 harg13 hc0 hc2 x0 x1 x2 x3 xt0 xt1 xt2 xt3 xs0 hc1).2.1)

/-- Case F's pieces for output 4 tile its block (1 store of `S1x512x512`, checked by the kernel's evaluation: Lib/Ring.lean `Piece.tiledL`, linear in the pieces, through a loop's `@[irreducible]` trip theorem too), so they cover it. -/
theorem cover0_F_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) (y : S1x512x512.Idx) :
    ∃ pc ∈ (kernelRun0_F c i arg8 harg8 arg9 harg9 arg10 harg10 arg11 harg11 arg12 harg12 arg13 harg13 hc0 hc2 x0 x1 x2 x3 xt0 xt1 xt2 xt3 xs0 hc1).1, y ∈ pc.1.set :=
  View.cover_of_tiledL (kernelRun0_F c i arg8 harg8 arg9 harg9 arg10 harg10 arg11 harg11 arg12 harg12 arg13 harg13 hc0 hc2 x0 x1 x2 x3 xt0 xt1 xt2 xt3 xs0 hc1).1 S1x512x512.size (by sl_kernel_rfl) y

/-- What case F leaves in output 4's staging buffer: its pieces read back over junk. -/
def out0_F_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_F c i arg8 harg8 arg9 harg9 arg10 harg10 arg11 harg11 arg12 harg12 arg13 harg13 hc0 hc2 x0 x1 x2 x3 xt0 xt1 xt2 xt3 xs0 hc1).1)

/-- Case F stores nothing into scratch `arg13`: it holds what the point before left. -/
def sout0_F_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x512x512 .bf16 × Vec F S512x512 .f32
  | 0, hn => if h1 : cond0_1 (grid0.coords ⟨0, hn⟩) (tbM0_0.view.readAt (Elt F) (Rect.unit (s := S40) (k0_off1 (grid0.coords ⟨0, hn⟩)) S1.size (k0_off1_inb (grid0.coords ⟨0, hn⟩))).toLoadRect (tbl m 0) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1)
  | n + 1, hn =>
    if h1 : cond0_1 (grid0.coords ⟨n + 1, hn⟩) (tbM0_0.view.readAt (Elt F) (Rect.unit (s := S40) (k0_off1 (grid0.coords ⟨n + 1, hn⟩)) S1.size (k0_off1_inb (grid0.coords ⟨n + 1, hn⟩))).toLoadRect (tbl m 0) (Shape.Idx.first (numel1_S1.symm ▸ Nat.one_pos))) then
      if h0 : (n + 1) % 32 = 0 then
        if h2 : (n + 1) % 32 = 31 then
          False.elim (by have hN : n + 1 < 3520 := lt_of_lt_of_eq hn (show (cfgM m hO).N = 3520 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1)
      else
        if h2 : (n + 1) % 32 = 31 then
          (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
        else
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
    else
      if h0 : (n + 1) % 32 = 0 then
        if h2 : (n + 1) % 32 = 31 then
          False.elim (by have hN : n + 1 < 3520 := lt_of_lt_of_eq hn (show (cfgM m hO).N = 3520 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1)
      else
        if h2 : (n + 1) % 32 = 31 then
          (out0_F_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
        else
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)

/-- `outsAt0` at a point of case A: that case's contents. -/
theorem outsAt0_A (hO : Ok m) (c : Dev nD) (t : Fin (cfgM m hO).N) (h0 : t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1) := by
  obtain ⟨n, hn⟩ := t
  cases n with
  | zero => rw [outsAt0, dif_pos h1]
  | succ n => rw [outsAt0, dif_pos h1, dif_pos h0, dif_neg h2]

/-- `outsAt0` at a point of case B: that case's contents. -/
theorem outsAt0_B (hO : Ok m) (c : Dev nD) (t : Fin (cfgM m hO).N) (h0 : t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1) := by
  obtain ⟨n, hn⟩ := t
  cases n with
  | zero => rw [outsAt0, dif_neg h1]
  | succ n => rw [outsAt0, dif_neg h1, dif_pos h0, dif_neg h2]

/-- `outsAt0` at a point of case C: that case's contents, over what the point before left. -/
theorem outsAt0_C (hO : Ok m) (c : Dev nD) (t : Fin (cfgM m hO).N) (h0 : ¬t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_pos h1, dif_neg h0, dif_neg h2]; simp only [Nat.add_sub_cancel]

/-- `outsAt0` at a point of case D: that case's contents, over what the point before left. -/
theorem outsAt0_D (hO : Ok m) (c : Dev nD) (t : Fin (cfgM m hO).N) (h0 : ¬t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_neg h1, dif_neg h0, dif_neg h2]; simp only [Nat.add_sub_cancel]

/-- `outsAt0` at a point of case E: that case's contents, over what the point before left. -/
theorem outsAt0_E (hO : Ok m) (c : Dev nD) (t : Fin (cfgM m hO).N) (h0 : ¬t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : t.val % 32 = 31) :
    outsAt0 m hO c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_pos h1, dif_neg h0, dif_pos h2]; simp only [Nat.add_sub_cancel]

/-- `outsAt0` at a point of case F: that case's contents, over what the point before left. -/
theorem outsAt0_F (hO : Ok m) (c : Dev nD) (t : Fin (cfgM m hO).N) (h0 : ¬t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : t.val % 32 = 31) :
    outsAt0 m hO c t.val t.isLt = (out0_F_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_neg h1, dif_neg h0, dif_pos h2]; simp only [Nat.add_sub_cancel]

end Cert.Kernel.Gen

end
-- ==== Proof.KernelFrame.Frame.lean ====
/- The kernel's frame: what the output block and the carried accumulator hold case by case and point by point
   (`Gen.outsAt0`), the proof data (`Gen.dats`), the body's obligation, the run (`Gen.run_main`) and `Gen.frame`.
   Follows the generated module of the same content over the runs of this directory. -/
module

public import proofs.«01_k».proof.Proof.KernelFrame.Outs
public import Idealize.ShloMosaic.Lib.Claim

@[expose] public section

-- membership in a rectangle of large extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 3520 := lt_of_lt_of_eq t.isLt (show (cfgM m hO).N = 3520 from N_0)
  by_cases h0 : t.val % 32 = 0
  · by_cases h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
    · by_cases h2 : t.val % 32 = 31
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
    · by_cases h2 : t.val % 32 = 31
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
    · by_cases h2 : t.val % 32 = 31
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_E m hO t (fun h => h0 ((hcond0_0 t).mp h)) ((hcond0_2 t).mpr h2)]; try rfl, after0_4]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_E m hO c t h0 h1 h2]
          unfold out0_E_4 sout0_E_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          isplitl [HT2]; · iexact HT2
          isplitl [HT3]; · iexact HT3
          iintro ⟨H0, H1, H2, H3, ⟨%e4, H4⟩, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_E_4 c _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_C m hO t (fun h => h0 ((hcond0_0 t).mp h)) (fun h => h2 ((hcond0_2 t).mp h))) (noFlush0_4_C m hO t (fun h => h0 ((hcond0_0 t).mp h)) (fun h => h2 ((hcond0_2 t).mp h)))]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
    · by_cases h2 : t.val % 32 = 31
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_F m hO t (fun h => h0 ((hcond0_0 t).mp h)) ((hcond0_2 t).mpr h2)]; try rfl, after0_4]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_F m hO c t h0 h1 h2]
          unfold out0_F_4 sout0_F_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_F c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          isplitl [HT2]; · iexact HT2
          isplitl [HT3]; · iexact HT3
          iintro ⟨H0, H1, H2, H3, ⟨%e4, H4⟩, HS0, HT0, HT1, HT2, HT3⟩
          isplitl [HS0 Hg HT0 HT1 HT2 HT3]
          · isplitl [HS0 Hg]
            · isplitl [HS0]
              · iexact HS0
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_F_4 c _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_D m hO t (fun h => h0 ((hcond0_0 t).mp h)) (fun h => h2 ((hcond0_2 t).mp h))) (noFlush0_4_D m hO t (fun h => h0 ((hcond0_0 t).mp h)) (fun h => h2 ((hcond0_2 t).mp h)))]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, HS0, HT0, HT1, HT2, HT3⟩
          isplitl [HS0 Hg HT0 HT1 HT2 HT3]
          · isplitl [HS0 Hg]
            · isplitl [HS0]
              · iexact HS0
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 3520 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Gen

end
-- ==== Proof.IdealFrame.Runs.lean ====
/- What the runs of the kernel's frame share: the buffers when the region is entered, the prefetched tables, the blocks,
   the conditions of the body's branches in closed form, the staging and scratch memrefs. Follows the generated module of
   the same content, whose split of the four tables (`PhiT0_eq`) does not parse for more than two tables: here it is
   bracketed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_v15
abbrev htbM0_0 : tbM0_0.IsWhole := Memref.isWhole_whole _
abbrev tbM0_1 : Memref sig .tc .smem S40 .i32 := Memref.whole main_v16
abbrev htbM0_1 : tbM0_1.IsWhole := Memref.isWhole_whole _
abbrev tbM0_2 : Memref sig .tc .smem S40 .i32 := Memref.whole main_v17
abbrev htbM0_2 : tbM0_2.IsWhole := Memref.isWhole_whole _
abbrev tbM0_3 : Memref sig .tc .smem S40 .i32 := Memref.whole main_v18
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 2).val) 0#32) (Scalar.cmpi .eq (BitVec.ofNat 32 (i 3).val) 0#32))) 0#32) = 1#1
/-- It holds at the points ≡ 0 (mod 32) — by arithmetic of the point. -/
theorem hcond0_0 : ∀ t : Fin grid0.N, cond0_0 (grid0.coords t) ↔ t.val % 32 = 0 :=
  (fun t => by
    have ht : t.val < 3520 := Nat.lt_of_lt_of_eq t.isLt N_0
    have e0 : (grid0.coords t 0).val = t.val / 352 % 10 := Pipeline.Grid.coords_val t 0 (by decide) rfl
    have e1 : (grid0.coords t 1).val = t.val / 32 % 11 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 32 = 0)

/-- The condition of the body's `scf.if` 1: over WORDS the body reads from its tables or input SMEM windows
    (`v8`), so no function of the point — a case variable: a hypothesis of each run, a `by_cases`
    of the obligation and an `if` of `outsAt`, stated over the argument blocks' words there. -/
abbrev cond0_1 (i : grid0.Coords) (v8 : BitVec 32) : Prop := (Scalar.cmpi .ne (Scalar.extui (Scalar.cmpi .sgt v8 0#32)) 0#32) = 1#1

/-- The condition of the body's `scf.if` 2 (`k0_h3`), from the grid coordinates (the skeleton's scalar
    chain substituted). -/
abbrev cond0_2 (i : grid0.Coords) : Prop := k0_cond3 i = 1#1
/-- It holds at the points ≡ 31 (mod 32) — by arithmetic of the point. -/
theorem hcond0_2 : ∀ t : Fin grid0.N, cond0_2 (grid0.coords t) ↔ t.val % 32 = 31 :=
  (fun t => by
    have ht : t.val < 3520 := Nat.lt_of_lt_of_eq t.isLt N_0
    have e0 : (grid0.coords t 0).val = t.val / 352 % 10 := Pipeline.Grid.coords_val t 0 (by decide) rfl
    have e1 : (grid0.coords t 1).val = t.val / 32 % 11 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_2, k0_cond3, e0, e1, e2, e3]
    word_cmp
   : ∀ t : Fin grid0.N, cond0_2 (grid0.coords t) ↔ t.val % 32 = 31)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- At the points of case A the printed configuration (`Cfg.idle`) calls output 4 idle: the case stores nothing into it. -/
theorem idleAt0_4_A (hO : Ok m) : ∀ t : Fin (cfgM m hO).N, cond0_0 (grid0.coords t) → ¬cond0_2 (grid0.coords t) → (cfgM m hO).idle 4 (grid0.coords t) = true :=
  (by decide +kernel : ∀ t : Fin grid0.N, cond0_0 (grid0.coords t) → ¬cond0_2 (grid0.coords t) → idle0 4 (grid0.coords t) = true)
/-- At the points of case A the pipeline does not write output 4's block back. -/
theorem noFlush0_4_A (hO : Ok m) : ∀ t : Fin (cfgM m hO).N, cond0_0 (grid0.coords t) → ¬cond0_2 (grid0.coords t) → ((cfgM m hO).win 4).flush t = false :=
  (by decide +kernel : ∀ t : Fin grid0.N, cond0_0 (grid0.coords t) → ¬cond0_2 (grid0.coords t) → Pipeline.Window.flushOf grid0 true cc0_transform_4 t = false)
/-- At the points of case B the printed configuration (`Cfg.idle`) calls output 4 idle: the case stores nothing into it. -/
theorem idleAt0_4_B (hO : Ok m) : ∀ t : Fin (cfgM m hO).N, cond0_0 (grid0.coords t) → ¬cond0_2 (grid0.coords t) → (cfgM m hO).idle 4 (grid0.coords t) = true :=
  (by decide +kernel : ∀ t : Fin grid0.N, cond0_0 (grid0.coords t) → ¬cond0_2 (grid0.coords t) → idle0 4 (grid0.coords t) = true)
/-- At the points of case B the pipeline does not write output 4's block back. -/
theorem noFlush0_4_B (hO : Ok m) : ∀ t : Fin (cfgM m hO).N, cond0_0 (grid0.coords t) → ¬cond0_2 (grid0.coords t) → ((cfgM m hO).win 4).flush t = false :=
  (by decide +kernel : ∀ t : Fin grid0.N, cond0_0 (grid0.coords t) → ¬cond0_2 (grid0.coords t) → Pipeline.Window.flushOf grid0 true cc0_transform_4 t = false)
/-- At the points of case C the printed configuration (`Cfg.idle`) calls output 4 idle: the case stores nothing into it. -/
theorem idleAt0_4_C (hO : Ok m) : ∀ t : Fin (cfgM m hO).N, ¬cond0_0 (grid0.coords t) → ¬cond0_2 (grid0.coords t) → (cfgM m hO).idle 4 (grid0.coords t) = true :=
  (by decide +kernel : ∀ t : Fin grid0.N, ¬cond0_0 (grid0.coords t) → ¬cond0_2 (grid0.coords t) → idle0 4 (grid0.coords t) = true)
/-- At the points of case C the pipeline does not write output 4's block back. -/
theorem noFlush0_4_C (hO : Ok m) : ∀ t : Fin (cfgM m hO).N, ¬cond0_0 (grid0.coords t) → ¬cond0_2 (grid0.coords t) → ((cfgM m hO).win 4).flush t = false :=
  (by decide +kernel : ∀ t : Fin grid0.N, ¬cond0_0 (grid0.coords t) → ¬cond0_2 (grid0.coords t) → Pipeline.Window.flushOf grid0 true cc0_transform_4 t = false)
/-- At the points of case D the printed configuration (`Cfg.idle`) calls output 4 idle: the case stores nothing into it. -/
theorem idleAt0_4_D (hO : Ok m) : ∀ t : Fin (cfgM m hO).N, ¬cond0_0 (grid0.coords t) → ¬cond0_2 (grid0.coords t) → (cfgM m hO).idle 4 (grid0.coords t) = true :=
  (by decide +kernel : ∀ t : Fin grid0.N, ¬cond0_0 (grid0.coords t) → ¬cond0_2 (grid0.coords t) → idle0 4 (grid0.coords t) = true)
/-- At the points of case D the pipeline does not write output 4's block back. -/
theorem noFlush0_4_D (hO : Ok m) : ∀ t : Fin (cfgM m hO).N, ¬cond0_0 (grid0.coords t) → ¬cond0_2 (grid0.coords t) → ((cfgM m hO).win 4).flush t = false :=
  (by decide +kernel : ∀ t : Fin grid0.N, ¬cond0_0 (grid0.coords t) → ¬cond0_2 (grid0.coords t) → Pipeline.Window.flushOf grid0 true cc0_transform_4 t = false)
/-- At the points of case E the printed configuration (`Cfg.idle`) calls output 4 live: the case stores into it. -/
theorem liveAt0_4_E (hO : Ok m) : ∀ t : Fin (cfgM m hO).N, ¬cond0_0 (grid0.coords t) → cond0_2 (grid0.coords t) → (cfgM m hO).idle 4 (grid0.coords t) = false :=
  (by decide +kernel : ∀ t : Fin grid0.N, ¬cond0_0 (grid0.coords t) → cond0_2 (grid0.coords t) → idle0 4 (grid0.coords t) = false)
/-- At the points of case F the printed configuration (`Cfg.idle`) calls output 4 live: the case stores into it. -/
theorem liveAt0_4_F (hO : Ok m) : ∀ t : Fin (cfgM m hO).N, ¬cond0_0 (grid0.coords t) → cond0_2 (grid0.coords t) → (cfgM m hO).idle 4 (grid0.coords t) = false :=
  (by decide +kernel : ∀ t : Fin grid0.N, ¬cond0_0 (grid0.coords t) → cond0_2 (grid0.coords t) → idle0 4 (grid0.coords t) = false)

/-! ## The kernel body on any staging memrefs: a subtype the run finds -/

/-- One staging buffer of output window 4, through which its contents are stated (`View.read_writes_of_cover`: the
    choice does not matter). -/
abbrev VO0_4 : View sig .tc .vmem S1x512x512 .bf16 := (Memref.whole cc0_stg4_0 : Memref sig .tc .vmem S1x512x512 .bf16).view
/-- Each window's current staging memref at point `t`, spelled as the pipeline passes it (`bodyAt0`), and its wholeness. -/
abbrev ms0_0 (hO : Ok m) (t : Fin (cfgM m hO).N) : Memref sig .tc .vmem S1x512x2048 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x512x16 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x16x4 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x512 .f32 := Memref.whole cc0_scratch0
/-- The scratch `arg13` the kernel carries between points, as a view: what it holds is stated through it. -/
abbrev VS0_0 : View sig .tc .vmem S512x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.IdealFrame.RunA.lean ====
/- The whole-body run of the kernel in case A of its three conditions (`Gen.kernelRun0_A`): the pieces each buffer ends
   with are the witness the run finds. Follows the generated module of the same content. -/
module

public import proofs.«01_k».proof.Proof.IdealFrame.Runs

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 32, … 3488: 110 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ d, owns (c : Thread nD τ) arg13 fullShare d) ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.KernelIdeal.Gen

end
-- ==== Proof.IdealFrame.RunB.lean ====
/- The whole-body run of the kernel in case B of its three conditions (`Gen.kernelRun0_B`): the pieces each buffer ends
   with are the witness the run finds. Follows the generated module of the same content. -/
module

public import proofs.«01_k».proof.Proof.IdealFrame.RunA

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 not taken, `scf.if` 2 not taken: points 0, 32, … 3488: 110 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ d, owns (c : Thread nD τ) arg13 fullShare d) ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.KernelIdeal.Gen

end
-- ==== Proof.IdealFrame.RunC.lean ====
/- The whole-body run of the kernel in case C of its three conditions (`Gen.kernelRun0_C`): the pieces each buffer ends
   with are the witness the run finds. Follows the generated module of the same content. -/
module

public import proofs.«01_k».proof.Proof.IdealFrame.RunB

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 1, 2, … 3518: 3300 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], ?_, fun xi4 E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]; · iexists _; iexact HS0
    isplitl [HT0]; · iexact HT0
    isplitl [HT1]; · iexact HT1
    isplitl [HT2]; · iexact HT2
    iexact HT3

end Cert.KernelIdeal.Gen

end
-- ==== Proof.IdealFrame.RunD.lean ====
/- The whole-body run of the kernel in case D of its three conditions (`Gen.kernelRun0_D`): the pieces each buffer ends
   with are the witness the run finds. Follows the generated module of the same content. -/
module

public import proofs.«01_k».proof.Proof.IdealFrame.RunC

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken: points 1, 2, … 3518: 3300 of 3520), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (xi4 : Vec F S1x512x512 .bf16) (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ owns (c : Thread nD τ) arg12 fullShare xi4 ∗ owns (c : Thread nD τ) arg13 fullShare xs0 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨[], [], fun xi4 E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg12.eq_unread hf4; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]
    · iexists _; isplitr; · ipureintro; exact harg12.read_unread _
      iexact H4
    isplitl [HS0]
    · iexists _; isplitr; · ipureintro; exact harg13.read_unread _
      iexact HS0
    isplitl [HT0]; · iexact HT0
    isplitl [HT1]; · iexact HT1
    isplitl [HT2]; · iexact HT2
    iexact HT3

end Cert.KernelIdeal.Gen

end
-- ==== Proof.IdealFrame.RunE.lean ====
/- The whole-body run of the kernel in case E of its three conditions (`Gen.kernelRun0_E`): the pieces each buffer ends
   with are the witness the run finds. Follows the generated module of the same content. -/
module

public import proofs.«01_k».proof.Proof.IdealFrame.RunD

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 taken, `scf.if` 2 taken: points 31, 63, … 3519: 110 of 3520), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ (∃ f, arg12.view.loc (c : Thread nD τ) ↦[arg12.view.set]{fullShare} arg12.view.writes (Elt F) f L4) ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨?_, ?_, fun E K => ?run⟩
  case run =>
    simp only [cc0_grouped_eq_skeleton]; unfold cc0_grouped_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]; · iexists _; iexact H4
    isplitl [HS0]; · iexists _; iexact HS0
    isplitl [HT0]; · iexact HT0
    isplitl [HT1]; · iexact HT1
    isplitl [HT2]; · iexact HT2
    iexact HT3

end Cert.KernelIdeal.Gen

end
-- ==== Proof.IdealFrame.RunF.lean ====
/- The whole-body run of the kernel in case F of its three conditions (`Gen.kernelRun0_F`): the pieces each buffer ends
   with are the witness the run finds. Follows the generated module of the same content. -/
module

public import proofs.«01_k».proof.Proof.IdealFrame.RunE

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 1 not taken, `scf.if` 2 taken: points 31, 63, … 3519: 110 of 3520), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_F (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) :
    Σ' (L4 : List (View.Piece (Elt F) S1x512x512 .bf16)), { LS0 : List (View.Piece (Elt F) S512x512 .f32) //
      ∀ (E : Set ℕ) (K : PUnit → sProp 𝕄),
        iprop(owns (c : Thread nD τ) arg8 fullShare x0 ∗ owns (c : Thread nD τ) arg9 fullShare x1 ∗ owns (c : Thread nD τ) arg10 fullShare x2 ∗ owns (c : Thread nD τ) arg11 fullShare x3 ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2 ∗ tbPt0 c tbM0_3 xt3
            ∗ (iprop(owns (c : Thread nD τ) arg8 fullShare x0 ∗ owns (c : Thread nD τ) arg9 fullShare x1 ∗ owns (c : Thread nD τ) arg10 fullShare x2 ∗ owns (c : Thread nD τ) arg11 fullShare x3 ∗ (∃ f, arg12.view.loc (c : Thread nD τ) ↦[arg12.view.set]{fullShare} arg12.view.writes (Elt F) f L4) ∗ owns (c : Thread nD τ) arg13 fullShare xs0 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped i tbM0_0 htbM0_0 tbM0_1 htbM0_1 tbM0_2 htbM0_2 tbM0_3 htbM0_3 arg8 harg8 arg9 harg9 arg10 harg10 arg11 harg11 arg12 harg12 arg13 harg13) K } := by
  refine ⟨?_, [], fun E K => ?run⟩
  case run =>
    simp only [cc0_grouped_eq_skeleton]; unfold cc0_grouped_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, Hk⟩
    obtain rfl := harg8.eq_unread hf0; obtain rfl := harg9.eq_unread hf1; obtain rfl := harg10.eq_unread hf2; obtain rfl := harg11.eq_unread hf3; obtain rfl := harg13.eq_unread hfs0
    sl_exec (disch := first | sl_exact hc0 | sl_exact hc1 | sl_exact hc2)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr; · ipureintro; exact harg11.read_unread _
      iexact H3
    isplitl [H4]; · iexists _; iexact H4
    isplitl [HS0]
    · iexists _; isplitr; · ipureintro; exact harg13.read_unread _
      iexact HS0
    isplitl [HT0]; · iexact HT0
    isplitl [HT1]; · iexact HT1
    isplitl [HT2]; · iexact HT2
    iexact HT3

end Cert.KernelIdeal.Gen

end
-- ==== Proof.IdealFrame.Outs.lean ====
/- The kernel's frame: what the output block and the carried accumulator hold case by case and point by point
   (`Gen.outsAt0`), the proof data (`Gen.dats`), the body's obligation, the run (`Gen.run_main`) and `Gen.frame`.
   Follows the generated module of the same content over the runs of this directory. -/
module

public import proofs.«01_k».proof.Proof.IdealFrame.RunF
public import Idealize.ShloMosaic.Lib.Claim

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_A c i arg8 harg8 arg9 harg9 arg10 harg10 arg11 harg11 arg12 harg12 arg13 harg13 hc0 hc2 x0 x1 x2 x3 xt0 xt1 xt2 xt3 hc1).1)

/-- Case A's pieces for scratch `arg13`, which the kernel carries between points, cover it: 2 pieces of `S512x512` tiling it (Lib/Ring.lean `Piece.tiledL`). -/
theorem scover0_A_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_A c i arg8 harg8 arg9 harg9 arg10 harg10 arg11 harg11 arg12 harg12 arg13 harg13 hc0 hc2 x0 x1 x2 x3 xt0 xt1 xt2 xt3 hc1).2.1, y ∈ pc.1.set :=
  View.cover_of_tiledL (kernelRun0_A c i arg8 harg8 arg9 harg9 arg10 harg10 arg11 harg11 arg12 harg12 arg13 harg13 hc0 hc2 x0 x1 x2 x3 xt0 xt1 xt2 xt3 hc1).2.1 S512x512.size (by sl_kernel_rfl) y

/-- What case A leaves in scratch `arg13`: its pieces read back over junk. -/
def sout0_A_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_A c i arg8 harg8 arg9 harg9 arg10 harg10 arg11 harg11 arg12 harg12 arg13 harg13 hc0 hc2 x0 x1 x2 x3 xt0 xt1 xt2 xt3 hc1).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_B c i arg8 harg8 arg9 harg9 arg10 harg10 arg11 harg11 arg12 harg12 arg13 harg13 hc0 hc2 x0 x1 x2 x3 xt0 xt1 xt2 xt3 hc1).1)

/-- Case B's pieces for scratch `arg13`, which the kernel carries between points, cover it: 1 piece of `S512x512` tiling it (Lib/Ring.lean `Piece.tiledL`). -/
theorem scover0_B_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_B c i arg8 harg8 arg9 harg9 arg10 harg10 arg11 harg11 arg12 harg12 arg13 harg13 hc0 hc2 x0 x1 x2 x3 xt0 xt1 xt2 xt3 hc1).2.1, y ∈ pc.1.set :=
  View.cover_of_tiledL (kernelRun0_B c i arg8 harg8 arg9 harg9 arg10 harg10 arg11 harg11 arg12 harg12 arg13 harg13 hc0 hc2 x0 x1 x2 x3 xt0 xt1 xt2 xt3 hc1).2.1 S512x512.size (by sl_kernel_rfl) y

/-- What case B leaves in scratch `arg13`: its pieces read back over junk. -/
def sout0_B_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_B c i arg8 harg8 arg9 harg9 arg10 harg10 arg11 harg11 arg12 harg12 arg13 harg13 hc0 hc2 x0 x1 x2 x3 xt0 xt1 xt2 xt3 hc1).2.1)

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_C c i arg8 harg8 arg9 harg9 arg10 harg10 arg11 harg11 arg12 harg12 arg13 harg13 hc0 hc2 x0 x1 x2 x3 xt0 xt1 xt2 xt3 xs0 hc1).1)

/-- Case C's pieces for scratch `arg13`, which the kernel carries between points, cover it: 1 piece of `S512x512` tiling it (Lib/Ring.lean `Piece.tiledL`). -/
theorem scover0_C_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_C c i arg8 harg8 arg9 harg9 arg10 harg10 arg11 harg11 arg12 harg12 arg13 harg13 hc0 hc2 x0 x1 x2 x3 xt0 xt1 xt2 xt3 xs0 hc1).2.1, y ∈ pc.1.set :=
  View.cover_of_tiledL (kernelRun0_C c i arg8 harg8 arg9 harg9 arg10 harg10 arg11 harg11 arg12 harg12 arg13 harg13 hc0 hc2 x0 x1 x2 x3 xt0 xt1 xt2 xt3 xs0 hc1).2.1 S512x512.size (by sl_kernel_rfl) y

/-- What case C leaves in scratch `arg13`: its pieces read back over junk. -/
def sout0_C_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_C c i arg8 harg8 arg9 harg9 arg10 harg10 arg11 harg11 arg12 harg12 arg13 harg13 hc0 hc2 x0 x1 x2 x3 xt0 xt1 xt2 xt3 xs0 hc1).2.1)

/-- Case D stores nothing into output 4 (the window is idle at its points and not written back there):
    no pieces — a placeholder (junk read back) that nothing consults, since at these points the window is neither
    written back nor read at the next point (Lib/Pipeline.lean "Idle points"). -/
def out0_D_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_D c i arg8 harg8 arg9 harg9 arg10 harg10 arg11 harg11 arg12 harg12 arg13 harg13 hc0 hc2 x0 x1 x2 x3 xt0 xt1 xt2 xt3 xs0 hc1).1)

/-- Case D stores nothing into scratch `arg13`: it holds what the point before left. -/
def sout0_D_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 := xs0

/-- Case E's pieces for output 4 tile its block (1 store of `S1x512x512`, checked by the kernel's evaluation: Lib/Ring.lean `Piece.tiledL`, linear in the pieces, through a loop's `@[irreducible]` trip theorem too), so they cover it. -/
theorem cover0_E_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S1x512x512.Idx) :
    ∃ pc ∈ (kernelRun0_E c i arg8 harg8 arg9 harg9 arg10 harg10 arg11 harg11 arg12 harg12 arg13 harg13 hc0 hc2 x0 x1 x2 x3 xt0 xt1 xt2 xt3 xs0 hc1).1, y ∈ pc.1.set :=
  View.cover_of_tiledL (kernelRun0_E c i arg8 harg8 arg9 harg9 arg10 harg10 arg11 harg11 arg12 harg12 arg13 harg13 hc0 hc2 x0 x1 x2 x3 xt0 xt1 xt2 xt3 xs0 hc1).1 S1x512x512.size (by sl_kernel_rfl) y

/-- What case E leaves in output 4's staging buffer: its pieces read back over junk. -/
def out0_E_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_E c i arg8 harg8 arg9 harg9 arg10 harg10 arg11 harg11 arg12 harg12 arg13 harg13 hc0 hc2 x0 x1 x2 x3 xt0 xt1 xt2 xt3 xs0 hc1).1)

/-- Case E's pieces for scratch `arg13`, which the kernel carries between points, cover it: 1 piece of `S512x512` tiling it (Lib/Ring.lean `Piece.tiledL`). -/
theorem scover0_E_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) (y : S512x512.Idx) :
    ∃ pc ∈ (kernelRun0_E c i arg8 harg8 arg9 harg9 arg10 harg10 arg11 harg11 arg12 harg12 arg13 harg13 hc0 hc2 x0 x1 x2 x3 xt0 xt1 xt2 xt3 xs0 hc1).2.1, y ∈ pc.1.set :=
  View.cover_of_tiledL (kernelRun0_E c i arg8 harg8 arg9 harg9 arg10 harg10 arg11 harg11 arg12 harg12 arg13 harg13 hc0 hc2 x0 x1 x2 x3 xt0 xt1 xt2 xt3 xs0 hc1).2.1 S512x512.size (by sl_kernel_rfl) y

/-- What case E leaves in scratch `arg13`: its pieces read back over junk. -/
def sout0_E_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : cond0_1 i (tbM0_0.view.readAt (Elt F) (Rect.unit (s := S40) (k0_off1 i) S1.size (k0_off1_inb i)).toLoadRect xt0 (Shape.Idx.first (numel1_S1.symm ▸ Nat.one_pos)))) : Vec F S512x512 .f32 :=
  VS0_0.read (Elt F) (VS0_0.writes (Elt F) VS0_0.junk (kernelRun0_E c i arg8 harg8 arg9 harg9 arg10 harg10 arg11 harg11 arg12 harg12 arg13 harg13 hc0 hc2 x0 x1 x2 x3 xt0 xt1 xt2 xt3 xs0 hc1).2.1)

/-- Case F's pieces for output 4 tile its block (1 store of `S1x512x512`, checked by the kernel's evaluation: Lib/Ring.lean `Piece.tiledL`, linear in the pieces, through a loop's `@[irreducible]` trip theorem too), so they cover it. -/
theorem cover0_F_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) (y : S1x512x512.Idx) :
    ∃ pc ∈ (kernelRun0_F c i arg8 harg8 arg9 harg9 arg10 harg10 arg11 harg11 arg12 harg12 arg13 harg13 hc0 hc2 x0 x1 x2 x3 xt0 xt1 xt2 xt3 xs0 hc1).1, y ∈ pc.1.set :=
  View.cover_of_tiledL (kernelRun0_F c i arg8 harg8 arg9 harg9 arg10 harg10 arg11 harg11 arg12 harg12 arg13 harg13 hc0 hc2 x0 x1 x2 x3 xt0 xt1 xt2 xt3 xs0 hc1).1 S1x512x512.size (by sl_kernel_rfl) y

/-- What case F leaves in output 4's staging buffer: its pieces read back over junk. -/
def out0_F_4 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S1x512x512 .bf16 :=
  VO0_4.read (Elt F) (VO0_4.writes (Elt F) VO0_4.junk (kernelRun0_F c i arg8 harg8 arg9 harg9 arg10 harg10 arg11 harg11 arg12 harg12 arg13 harg13 hc0 hc2 x0 x1 x2 x3 xt0 xt1 xt2 xt3 xs0 hc1).1)

/-- Case F stores nothing into scratch `arg13`: it holds what the point before left. -/
def sout0_F_0 (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec F S1x512x2048 .fp8e4m3) (x1 : Vec F S1x1x512x16 .f32) (x2 : Vec F S1x2048x512 .fp8e4m3) (x3 : Vec F S1x1x1x16x4 .f32) (xt0 : TbBuf0 (F := F) c tbM0_0) (xt1 : TbBuf0 (F := F) c tbM0_1) (xt2 : TbBuf0 (F := F) c tbM0_2) (xt3 : TbBuf0 (F := F) c tbM0_3) (xs0 : Vec F S512x512 .f32) (hc1 : ¬cond0_1 i (tbM0_0.view.readAt (Elt F) (Rect.unit (s := S40) (k0_off1 i) S1.size (k0_off1_inb i)).toLoadRect xt0 (Shape.Idx.first (numel1_S1.symm ▸ Nat.one_pos)))) : Vec F S512x512 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x512x512 .bf16 × Vec F S512x512 .f32
  | 0, hn => if h1 : cond0_1 (grid0.coords ⟨0, hn⟩) (tbM0_0.view.readAt (Elt F) (Rect.unit (s := S40) (k0_off1 (grid0.coords ⟨0, hn⟩)) S1.size (k0_off1_inb (grid0.coords ⟨0, hn⟩))).toLoadRect (tbl m 0) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (tbl m 2) (tbl m 3) h1)
  | n + 1, hn =>
    if h1 : cond0_1 (grid0.coords ⟨n + 1, hn⟩) (tbM0_0.view.readAt (Elt F) (Rect.unit (s := S40) (k0_off1 (grid0.coords ⟨n + 1, hn⟩)) S1.size (k0_off1_inb (grid0.coords ⟨n + 1, hn⟩))).toLoadRect (tbl m 0) (Shape.Idx.first (numel1_S1.symm ▸ Nat.one_pos))) then
      if h0 : (n + 1) % 32 = 0 then
        if h2 : (n + 1) % 32 = 31 then
          False.elim (by have hN : n + 1 < 3520 := lt_of_lt_of_eq hn (show (cfgM m hO).N = 3520 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1)
      else
        if h2 : (n + 1) % 32 = 31 then
          (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
        else
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
    else
      if h0 : (n + 1) % 32 = 0 then
        if h2 : (n + 1) % 32 = 31 then
          False.elim (by have hN : n + 1 < 3520 := lt_of_lt_of_eq hn (show (cfgM m hO).N = 3520 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) h1)
      else
        if h2 : (n + 1) % 32 = 31 then
          (out0_F_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)
        else
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (tbl m 3) (outsAt0 hO c n (Nat.lt_of_succ_lt hn)).2 h1)

/-- `outsAt0` at a point of case A: that case's contents. -/
theorem outsAt0_A (hO : Ok m) (c : Dev nD) (t : Fin (cfgM m hO).N) (h0 : t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1) := by
  obtain ⟨n, hn⟩ := t
  cases n with
  | zero => rw [outsAt0, dif_pos h1]
  | succ n => rw [outsAt0, dif_pos h1, dif_pos h0, dif_neg h2]

/-- `outsAt0` at a point of case B: that case's contents. -/
theorem outsAt0_B (hO : Ok m) (c : Dev nD) (t : Fin (cfgM m hO).N) (h0 : t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1) := by
  obtain ⟨n, hn⟩ := t
  cases n with
  | zero => rw [outsAt0, dif_neg h1]
  | succ n => rw [outsAt0, dif_neg h1, dif_pos h0, dif_neg h2]

/-- `outsAt0` at a point of case C: that case's contents, over what the point before left. -/
theorem outsAt0_C (hO : Ok m) (c : Dev nD) (t : Fin (cfgM m hO).N) (h0 : ¬t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_pos h1, dif_neg h0, dif_neg h2]; simp only [Nat.add_sub_cancel]

/-- `outsAt0` at a point of case D: that case's contents, over what the point before left. -/
theorem outsAt0_D (hO : Ok m) (c : Dev nD) (t : Fin (cfgM m hO).N) (h0 : ¬t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : ¬t.val % 32 = 31) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_neg h1, dif_neg h0, dif_neg h2]; simp only [Nat.add_sub_cancel]

/-- `outsAt0` at a point of case E: that case's contents, over what the point before left. -/
theorem outsAt0_E (hO : Ok m) (c : Dev nD) (t : Fin (cfgM m hO).N) (h0 : ¬t.val % 32 = 0) (h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : t.val % 32 = 31) :
    outsAt0 m hO c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_pos h1, dif_neg h0, dif_pos h2]; simp only [Nat.add_sub_cancel]

/-- `outsAt0` at a point of case F: that case's contents, over what the point before left. -/
theorem outsAt0_F (hO : Ok m) (c : Dev nD) (t : Fin (cfgM m hO).N) (h0 : ¬t.val % 32 = 0) (h1 : ¬cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))) (h2 : t.val % 32 = 31) :
    outsAt0 m hO c t.val t.isLt = (out0_F_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) (outsAt0 m hO c (t.val - 1) (Nat.lt_of_le_of_lt (Nat.sub_le _ _) t.isLt)).2 h1) := by
  obtain ⟨n, hn⟩ := t
  cases n with
  | zero => exact absurd (Nat.zero_mod _) h0
  | succ n => rw [outsAt0, dif_neg h1, dif_neg h0, dif_pos h2]; simp only [Nat.add_sub_cancel]

end Cert.KernelIdeal.Gen

end
-- ==== Proof.IdealFrame.Frame.lean ====
/- The kernel's frame: what the output block and the carried accumulator hold case by case and point by point
   (`Gen.outsAt0`), the proof data (`Gen.dats`), the body's obligation, the run (`Gen.run_main`) and `Gen.frame`.
   Follows the generated module of the same content over the runs of this directory. -/
module

public import proofs.«01_k».proof.Proof.IdealFrame.Outs
public import Idealize.ShloMosaic.Lib.Claim

@[expose] public section

-- membership in a rectangle of large extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 3520 := lt_of_lt_of_eq t.isLt (show (cfgM m hO).N = 3520 from N_0)
  by_cases h0 : t.val % 32 = 0
  · by_cases h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
    · by_cases h2 : t.val % 32 = 31
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
    · by_cases h2 : t.val % 32 = 31
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) (tbl m 2) (tbl m 3) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
    · by_cases h2 : t.val % 32 = 31
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_E m hO t (fun h => h0 ((hcond0_0 t).mp h)) ((hcond0_2 t).mpr h2)]; try rfl, after0_4]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_E m hO c t h0 h1 h2]
          unfold out0_E_4 sout0_E_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          isplitl [HT2]; · iexact HT2
          isplitl [HT3]; · iexact HT3
          iintro ⟨H0, H1, H2, H3, ⟨%e4, H4⟩, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_E_4 c _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_C m hO t (fun h => h0 ((hcond0_0 t).mp h)) (fun h => h2 ((hcond0_2 t).mp h))) (noFlush0_4_C m hO t (fun h => h0 ((hcond0_0 t).mp h)) (fun h => h2 ((hcond0_2 t).mp h)))]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, ⟨%es0, HS0⟩, HT0, HT1, HT2, HT3⟩
          isplitl [HS0 Hg HT0 HT1 HT2 HT3]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4
    · by_cases h2 : t.val % 32 = 31
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_F m hO t (fun h => h0 ((hcond0_0 t).mp h)) ((hcond0_2 t).mpr h2)]; try rfl, after0_4]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_F m hO c t h0 h1 h2]
          unfold out0_F_4 sout0_F_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_F c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) (tbl m 2) (tbl m 3) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          isplitl [HT2]; · iexact HT2
          isplitl [HT3]; · iexact HT3
          iintro ⟨H0, H1, H2, H3, ⟨%e4, H4⟩, HS0, HT0, HT1, HT2, HT3⟩
          isplitl [HS0 Hg HT0 HT1 HT2 HT3]
          · isplitl [HS0 Hg]
            · isplitl [HS0]
              · iexact HS0
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_F_4 c _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_D m hO t (fun h => h0 ((hcond0_0 t).mp h)) (fun h => h2 ((hcond0_2 t).mp h))) (noFlush0_4_D m hO t (fun h => h0 ((hcond0_0 t).mp h)) (fun h => h2 ((hcond0_2 t).mp h)))]
        by_cases hz : t.val = 0
        · exfalso; have hN : t.val < 3520 := lt_of_lt_of_eq t.isLt (show (cfgM m hO).N = 3520 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) (tbl m 2) (tbl m 3) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          isplitl [HT2]; · iexact HT2
          isplitl [HT3]; · iexact HT3
          iintro ⟨H0, H1, H2, H3, H4, HS0, HT0, HT1, HT2, HT3⟩
          isplitl [HS0 Hg HT0 HT1 HT2 HT3]
          · isplitl [HS0 Hg]
            · isplitl [HS0]
              · iexact HS0
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          isplitl [H3]; · iexact H3
          iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 3520 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Gen

end
-- ==== Proof.Scan.lean ====
/- The running sums and running maxima along a row of four: the host's window operation of four positions, padded
   three low, read at an entry. -/
module

public import Idealize.ShloMosaic.Lib.Pointwise
public import Idealize.ShloMosaic.Lib.WordCmp

@[expose] public section

set_option maxRecDepth 16384

noncomputable section

namespace Cert.Scan

open Idealize.ShloMosaic

/-- A window of four positions along the second axis, padded three low: entry `(s, e)` folds the body over the
    entries `(s, e - 3) … (s, e)`, the initial value standing for those before the row's start. -/
theorem window_row {α : Type} {A : ℕ} (f : α → α → α) (x : (⟨2, ![A, 4]⟩ : Shape).Idx → α) (init : (⟨0, ![]⟩ : Shape).Idx → α)
    (h : (⟨2, ![A, 4]⟩ : Shape).ReduceWindows (![1, 4] : Fin 2 → Nat) ![1, 1] ![0, 3] ![0, 0] ⟨2, ![A, 4]⟩)
    (hu : 0 < (⟨0, ![]⟩ : Shape).numel) (s : Fin A) (e : Fin 4) :
    Host.reduceWindow f ![1, 4] ![1, 1] ![0, 3] ![0, 0] x init h hu (ix2 s e)
      = (List.finRange 4).foldl (fun r n => f r (if h : 3 ≤ e.val + n.val then x (ix2 s ⟨e.val + n.val - 3, by omega⟩) else init ix0)) (init ix0) := by
  have hs := s.isLt
  have he := e.isLt
  have hv : init (Shape.Idx.first hu) = init ix0 := congrArg init (funext fun a => a.elim0)
  have hn : (⟨2, ![1, 4]⟩ : Shape).numel = 4 := by decide
  have hw : ∀ n : Fin (⟨2, ![1, 4]⟩ : Shape).numel, ((⟨2, ![1, 4]⟩ : Shape).rowMajor.symm n 0).val = 0 ∧ ((⟨2, ![1, 4]⟩ : Shape).rowMajor.symm n 1).val = n.val := by
    decide +kernel
  unfold Host.reduceWindow
  dsimp only
  rw [hv]
  have key : ∀ (k : ℕ) (hk : (⟨2, ![1, 4]⟩ : Shape).numel = k) (g : α → Fin (⟨2, ![1, 4]⟩ : Shape).numel → α) (g' : α → Fin k → α)
      (_ : ∀ r n, g r n = g' r (n.cast hk)) (v : α), (List.finRange (⟨2, ![1, 4]⟩ : Shape).numel).foldl g v = (List.finRange k).foldl g' v := by
    intro k hk g g' hg v
    subst hk
    exact congrArg (fun t => List.foldl t v _) (funext fun r => funext fun n => hg r n)
  refine key 4 hn _ _ (fun r n => congrArg (f r) ?_) _
  have hw0 := (hw n).1
  have hw1 := (hw n).2
  have hn4 : n.val < 4 := (n.cast hn).isLt
  split
  · next hin =>
    have h1 := hin 1
    change 3 ≤ e.val * 1 + ((⟨2, ![1, 4]⟩ : Shape).rowMajor.symm n 1).val ∧ _ at h1
    rw [hw1] at h1
    rw [dif_pos (show 3 ≤ e.val + (n.cast hn).val by simpa using h1.1)]
    refine congrArg x (funext fun a => Fin.ext ?_)
    match a with
    | ⟨0, _⟩ =>
      show s.val * 1 + ((⟨2, ![1, 4]⟩ : Shape).rowMajor.symm n 0).val - 0 = s.val
      rw [hw0]; omega
    | ⟨1, _⟩ =>
      show e.val * 1 + ((⟨2, ![1, 4]⟩ : Shape).rowMajor.symm n 1).val - 3 = e.val + n.val - 3
      rw [hw1]; omega
  · next hin =>
    rw [dif_neg fun hle => hin fun a => ?_]
    have hle' : 3 ≤ e.val + n.val := hle
    match a with
    | ⟨0, _⟩ =>
      show 0 ≤ s.val * 1 + ((⟨2, ![1, 4]⟩ : Shape).rowMajor.symm n 0).val ∧ s.val * 1 + ((⟨2, ![1, 4]⟩ : Shape).rowMajor.symm n 0).val - 0 < A
      rw [hw0]; omega
    | ⟨1, _⟩ =>
      show 3 ≤ e.val * 1 + ((⟨2, ![1, 4]⟩ : Shape).rowMajor.symm n 1).val ∧ e.val * 1 + ((⟨2, ![1, 4]⟩ : Shape).rowMajor.symm n 1).val - 3 < 4
      rw [hw1]; omega

/-- The running maximum of words none of which exceeds three, from the least word: it is between zero and three, and no
    less than the entry itself. -/
theorem cummax_row {A : ℕ} (x : (⟨2, ![A, 4]⟩ : Shape).Idx → BitVec 32) (init : (⟨0, ![]⟩ : Shape).Idx → BitVec 32) (hinit : init ix0 = 2147483648#32)
    (h : (⟨2, ![A, 4]⟩ : Shape).ReduceWindows (![1, 4] : Fin 2 → Nat) ![1, 1] ![0, 3] ![0, 0] ⟨2, ![A, 4]⟩)
    (hu : 0 < (⟨0, ![]⟩ : Shape).numel) (s : Fin A) (g : Fin 4 → Bool)
    (hx : ∀ e : Fin 4, x (ix2 s e) = if g e then BitVec.ofNat 32 e.val else 0#32) (e : Fin 4) :
    (Host.reduceWindow IntOp.maxsi ![1, 4] ![1, 1] ![0, 3] ![0, 0] x init h hu (ix2 s e)).toNat < 4
    ∧ (g e = true → Host.reduceWindow IntOp.maxsi ![1, 4] ![1, 1] ![0, 3] ![0, 0] x init h hu (ix2 s e) = BitVec.ofNat 32 e.val) := by
  rw [window_row]
  simp only [hx, hinit]
  revert g e
  have := (by decide +kernel : ∀ (a b c d : Bool) (e : Fin 4),
    (List.foldl (fun r (n : Fin 4) => IntOp.maxsi r (if h : 3 ≤ e.val + n.val then (if (![a, b, c, d] : Fin 4 → Bool) ⟨e.val + n.val - 3, by omega⟩ then BitVec.ofNat 32 (e.val + n.val - 3) else 0#32) else 2147483648#32)) 2147483648#32 (List.finRange 4)).toNat < 4
    ∧ ((![a, b, c, d] : Fin 4 → Bool) e = true → List.foldl (fun r (n : Fin 4) => IntOp.maxsi r (if h : 3 ≤ e.val + n.val then (if (![a, b, c, d] : Fin 4 → Bool) ⟨e.val + n.val - 3, by omega⟩ then BitVec.ofNat 32 (e.val + n.val - 3) else 0#32) else 2147483648#32)) 2147483648#32 (List.finRange 4) = BitVec.ofNat 32 e.val))
  intro g _ e
  have hg : g = ![g 0, g 1, g 2, g 3] := by funext i; fin_cases i <;> rfl
  rw [hg]
  exact this _ _ _ _ e

/-- The running sum along a row of four naturals. -/
theorem cumsum_row {A : ℕ} (x : (⟨2, ![A, 4]⟩ : Shape).Idx → BitVec 32) (init : (⟨0, ![]⟩ : Shape).Idx → BitVec 32) (hinit : init ix0 = 0#32)
    (h : (⟨2, ![A, 4]⟩ : Shape).ReduceWindows (![1, 4] : Fin 2 → Nat) ![1, 1] ![0, 3] ![0, 0] ⟨2, ![A, 4]⟩)
    (hu : 0 < (⟨0, ![]⟩ : Shape).numel) (s : Fin A) (n : Fin 4 → ℕ) (hx : ∀ k, x (ix2 s k) = BitVec.ofNat 32 (n k)) (e : Fin 4) :
    Host.reduceWindow IntOp.addi ![1, 4] ![1, 1] ![0, 3] ![0, 0] x init h hu (ix2 s e) = BitVec.ofNat 32 (∑ k : Fin 4, if k ≤ e then n k else 0) := by
  rw [window_row, hinit]
  simp only [List.finRange_succ, List.finRange_zero, List.map_cons, List.map_nil, List.foldl_cons, List.foldl_nil, IntOp.addi, Fin.sum_univ_four, hx]
  fin_cases e <;> simp [BitVec.ofNat_add]

end Cert.Scan
-- ==== Proof.Tables.lean ====
/- The four tables the kernel is launched with (which experts have rows, the expert whose weights are staged, the first and
   the one-past-last row of each expert's segment), as functions of the counts; the index maps over them in closed form;
   and that every block they name lies inside its array, whatever the counts. -/
module

public import proofs.«01_k».proof.Proof.IdealFrame.Frame
public import proofs.«01_k».proof.Proof.Scan
public import Idealize.ShloMosaic.Lib.Pipeline.ValueKit
public import Idealize.ShloMosaic.Lib.StableHlo.RunRead

@[expose] public section

set_option maxRecDepth 16384

noncomputable section

namespace Cert.KernelIdeal.Tables

open Idealize.ShloMosaic Idealize.ShloMosaic.TcCoe Idealize.SL.Sem
open Cert.KernelIdeal Cert.KernelIdeal.Gen

/-! ## The tables over the counts -/

/-- Zero at every entry. -/
def zeros : IVec S10x4 32 := broadcastInDim S10x4 ![] bcast_S_S10x4 (constantI S_ 32 0#32)
/-- One where the expert has rows, zero elsewhere. -/
def live (C : IVec S10x4 32) : IVec S10x4 32 := extui 32 (cmpi .sgt C zeros) natLt_1_32
/-- The last expert with rows up to this one. -/
def held (C : IVec S10x4 32) : IVec S10x4 32 :=
  Host.reduceWindow IntOp.maxsi ![1, 4] ![1, 1] ![0, 3] ![0, 0]
    (select (cmpi .sgt (live C) zeros) (broadcastInDim S10x4 ![1] bcast_S4_S10x4_1 (iotaInDim S4 32 0)) zeros)
    (broadcastInDim S_ ![] bcast_S_S_ (constantI S_ 32 2147483648#32)) reduceWindows_S10x4_S10x4_w1s1p0_0_w4s1p3_0 h_S_
/-- The row after the last of each expert's segment. -/
def stop (C : IVec S10x4 32) : IVec S10x4 32 :=
  Host.reduceWindow IntOp.addi ![1, 4] ![1, 1] ![0, 3] ![0, 0] C (broadcastInDim S_ ![] bcast_S_S_ (constantI S_ 32 0#32))
    reduceWindows_S10x4_S10x4_w1s1p0_0_w4s1p3_0 h_S_
/-- The first row of each expert's segment. -/
def start (C : IVec S10x4 32) : IVec S10x4 32 := subi (stop C) C

section
variable {F : FTy → Type} [FloatOps F]
variable (m : (ℓ : Loc nD τ sig) → Buf (Elt F) ℓ)

theorem V_v15 (c : Dev nD) : V m c main_v15 = shapeCast S40 (live (m ((c : Thread nD τ).loc main_arg4))) shapeCasts_S10x4_S40 := by
  simp only [V, hostOps0, hostOps0_1, hostOps0_2, hostOps0_3, hostOps0_4, List.flatten_cons, List.flatten_nil, List.append_nil, List.cons_append, List.nil_append]
  after_reads_simp
  rfl
theorem V_v16 (c : Dev nD) : V m c main_v16 = shapeCast S40 (held (m ((c : Thread nD τ).loc main_arg4))) shapeCasts_S10x4_S40 := by
  simp only [V, hostOps0, hostOps0_1, hostOps0_2, hostOps0_3, hostOps0_4, List.flatten_cons, List.flatten_nil, List.append_nil, List.cons_append, List.nil_append]
  after_reads_simp
  simp only [StableHlo.TRef.toBuf, StableHlo.TRef.ofBuf, cast_eq, id]
  rfl
theorem V_v17 (c : Dev nD) : V m c main_v17 = shapeCast S40 (start (m ((c : Thread nD τ).loc main_arg4))) shapeCasts_S10x4_S40 := by
  simp only [V, hostOps0, hostOps0_1, hostOps0_2, hostOps0_3, hostOps0_4, List.flatten_cons, List.flatten_nil, List.append_nil, List.cons_append, List.nil_append]
  after_reads_simp
  rfl
theorem V_v18 (c : Dev nD) : V m c main_v18 = shapeCast S40 (stop (m ((c : Thread nD τ).loc main_arg4))) shapeCasts_S10x4_S40 := by
  simp only [V, hostOps0, hostOps0_1, hostOps0_2, hostOps0_3, hostOps0_4, List.flatten_cons, List.flatten_nil, List.append_nil, List.cons_append, List.nil_append]
  after_reads_simp
  rfl
/-- The scales of the rows, regrouped by blocks of sixteen. -/
theorem V_v12 (c : Dev nD) : V m c main_v12 = transpose S10x8x512x16 [0, 2, 1, 3] (shapeCast S10x512x8x16 (m ((c : Thread nD τ).loc main_arg1)) shapeCasts_S10x512x128_S10x512x8x16) transposes_S10x512x8x16_S10x8x512x16_0_2_1_3 := by
  simp only [V, hostOps0, hostOps0_1, hostOps0_2, hostOps0_3, hostOps0_4, List.flatten_cons, List.flatten_nil, List.append_nil, List.cons_append, List.nil_append]
  after_reads_simp
  rfl
/-- The scales of the weights, regrouped by blocks of sixteen by four. -/
theorem V_v14 (c : Dev nD) : V m c main_v14 = transpose S4x8x11x16x4 [0, 1, 3, 2, 4] (shapeCast S4x8x16x11x4 (m ((c : Thread nD τ).loc main_arg3)) shapeCasts_S4x128x44_S4x8x16x11x4) transposes_S4x8x16x11x4_S4x8x11x16x4_0_1_3_2_4 := by
  simp only [V, hostOps0, hostOps0_1, hostOps0_2, hostOps0_3, hostOps0_4, List.flatten_cons, List.flatten_nil, List.append_nil, List.cons_append, List.nil_append]
  after_reads_simp
  rfl
end

/-! ## The tables at an entry -/

theorem live_at (C : IVec S10x4 32) (s : Fin 10) (e : Fin 4) : live C (ix2 s e) = if IntOp.cmpi .sgt (C (ix2 s e)) 0#32 = 1#1 then 1#32 else 0#32 := by
  pointwise [live, zeros]
  rcases (by decide : ∀ b : BitVec 1, b = 0#1 ∨ b = 1#1) (IntOp.cmpi .sgt (C (ix2 s e)) 0#32) with h | h <;> rw [h] <;> decide

theorem held_at (C : IVec S10x4 32) (s : Fin 10) (e : Fin 4) :
    (held C (ix2 s e)).toNat < 4 ∧ (IntOp.cmpi .sgt (C (ix2 s e)) 0#32 = 1#1 → held C (ix2 s e) = BitVec.ofNat 32 e.val) := by
  have := Scan.cummax_row (select (cmpi .sgt (live C) zeros) (broadcastInDim S10x4 ![1] bcast_S4_S10x4_1 (iotaInDim S4 32 0)) zeros)
    (broadcastInDim S_ ![] bcast_S_S_ (constantI S_ 32 2147483648#32)) rfl reduceWindows_S10x4_S10x4_w1s1p0_0_w4s1p3_0 h_S_ s
    (fun e => decide (IntOp.cmpi .sgt (C (ix2 s e)) 0#32 = 1#1)) (fun e => by
      have hl := live_at C s e
      pointwise [zeros]
      rw [hl]
      by_cases h : IntOp.cmpi .sgt (C (ix2 s e)) 0#32 = 1#1 <;> simp only [h, if_true, if_false, decide_true, decide_false] <;> rfl) e
  exact ⟨this.1, fun h => this.2 (decide_eq_true h)⟩

/-- A table is read at the word the point's source and expert name. -/
theorem off_at (i : grid0.Coords) : k0_off1 i = ![4 * (i 0).val + (i 2).val] := by
  have h0 : (i 0).val < 10 := (i 0).isLt
  have h2 : (i 2).val < 4 := (i 2).isLt
  unfold k0_off1
  have e : (Scalar.indexCast (Scalar.addi (Scalar.muli (BitVec.ofNat 32 (i 0).val) 4#32) (BitVec.ofNat 32 (i 2).val))).toNat = 4 * (i 0).val + (i 2).val := by
    have r : ∀ (a : Fin 10) (b : Fin 4), (Scalar.indexCast (Scalar.addi (Scalar.muli (BitVec.ofNat 32 a.val) 4#32) (BitVec.ofNat 32 b.val))).toNat = 4 * a.val + b.val := by decide +kernel
    exact r ⟨_, h0⟩ ⟨_, h2⟩
  exact congrArg (fun n : ℕ => ![n]) e

/-! ## The blocks the tables name -/

/-- The reduction block staged: the point's own where the expert has rows, the last one elsewhere. -/
theorem sel_toNat (v : BitVec 1) (n : ℕ) (hn : n < 8) : (Scalar.select v (BitVec.ofNat 32 n) 7#32).toNat = if v = 1#1 then n else 7 := by
  have hn' : (BitVec.ofNat 32 n).toNat = n := by simp; omega
  rcases (by decide : ∀ b : BitVec 1, b = 0#1 ∨ b = 1#1) v with rfl | rfl
  · rfl
  · exact hn'

theorem ok_of {F : FTy → Type} [FloatOps F] (pf : pre0.Contents (Elt F)) (h : ∀ j, (pf 1 j : BitVec 32).toNat < 4) : ok0 pf := by
  have hw : ∀ n : ℕ, n < 12 → (BitVec.ofNat 32 n).toNat = n := fun n hn => by simp; omega
  have h0 : ∀ i : grid0.Coords, (i 0).val < 10 := fun i => (i 0).isLt
  have h1 : ∀ i : grid0.Coords, (i 1).val < 11 := fun i => (i 1).isLt
  have h3 : ∀ i : grid0.Coords, (i 3).val < 8 := fun i => (i 3).isLt
  have hs : ∀ (v : BitVec 1) (i : grid0.Coords), (Scalar.select v (BitVec.ofNat 32 (i 3).val) 7#32).toNat < 8 := fun v i => by
    have := h3 i
    rw [sel_toNat _ _ this]; split <;> omega
  refine ⟨fun i => ⟨fun a => ?_, .inr (Affine.block_words_dvd (of_decide_eq_true rfl) (by decide))⟩, fun i => ⟨fun a => ?_, .inl rfl⟩,
    fun i => ⟨fun a => ?_, .inr (Affine.block_words_dvd (of_decide_eq_true rfl) (by decide))⟩, fun i => ⟨fun a => ?_, .inl rfl⟩⟩
  · have a0 := h0 i
    match a with
    | ⟨0, _⟩ => show ((BitVec.ofNat 32 (i 0).val).toNat + 1) * 1 ≤ 10; rw [hw _ (by omega)]; omega
    | ⟨1, _⟩ => exact (by decide : (0 + 1) * 512 ≤ 512)
    | ⟨2, _⟩ => exact (Nat.mul_le_mul_right 2048 (hs _ i) : _ ≤ 8 * 2048)
  · have a0 := h0 i
    match a with
    | ⟨0, _⟩ => show ((BitVec.ofNat 32 (i 0).val).toNat + 1) * 1 ≤ 10; rw [hw _ (by omega)]; omega
    | ⟨1, _⟩ => exact (Nat.mul_le_mul_right 1 (hs _ i) : _ ≤ 8 * 1)
    | ⟨2, _⟩ => exact (by decide : (0 + 1) * 512 ≤ 512)
    | ⟨3, _⟩ => exact (by decide : (0 + 1) * 16 ≤ 16)
  · have a1 := h1 i
    match a with
    | ⟨0, _⟩ => exact (Nat.mul_le_mul_right 1 (h _) : _ ≤ 4 * 1)
    | ⟨1, _⟩ => exact (Nat.mul_le_mul_right 2048 (hs _ i) : _ ≤ 8 * 2048)
    | ⟨2, _⟩ => show ((BitVec.ofNat 32 (i 1).val).toNat + 1) * 512 ≤ 5632; rw [hw _ (by omega)]; omega
  · have a1 := h1 i
    match a with
    | ⟨0, _⟩ => exact (Nat.mul_le_mul_right 1 (h _) : _ ≤ 4 * 1)
    | ⟨1, _⟩ => exact (Nat.mul_le_mul_right 1 (hs _ i) : _ ≤ 8 * 1)
    | ⟨2, _⟩ => show ((BitVec.ofNat 32 (i 1).val).toNat + 1) * 1 ≤ 11; rw [hw _ (by omega)]; omega
    | ⟨3, _⟩ => exact (by decide : (0 + 1) * 16 ≤ 16)
    | ⟨4, _⟩ => exact (by decide : (0 + 1) * 4 ≤ 4)

/-- A row-major table of forty at a word is the matrix at the word's source and expert. -/
theorem flat_at {α : Type} (X : S10x4.Idx → α) (j : S40.Idx) :
    shapeCast S40 X shapeCasts_S10x4_S40 j = X (ix2 (⟨(j 0).val / 4, by have : (j 0).val < 40 := (j 0).isLt; omega⟩ : Fin 10) (⟨(j 0).val % 4, Nat.mod_lt _ (by decide)⟩ : Fin 4)) := by
  pointwise

/-- The blocks lie inside their arrays whatever the arguments. -/
theorem ok {F : FTy → Type} [FloatOps F] (m : (ℓ : Loc nD τ sig) → Buf (Elt F) ℓ) : Ok m :=
  ok_of _ fun j => by
    have e : tbl m 1 = shapeCast S40 (held (m (((0 : Dev nD) : Thread nD τ).loc main_arg4))) shapeCasts_S10x4_S40 := V_v16 m 0
    rw [e]
    exact (congrArg BitVec.toNat (flat_at _ j)).trans_lt (held_at _ _ _).1

end Cert.KernelIdeal.Tables
-- ==== Proof.KernelOk.lean ====
/- The blocks the kernel as printed names lie inside its arrays: the statement proved for the idealized program, whose
   tables are computed by the same integer operations. -/
module

public import proofs.«01_k».proof.Proof.KernelFrame.Frame
public import proofs.«01_k».proof.Proof.Tables

@[expose] public section

set_option maxRecDepth 16384
set_option maxHeartbeats 1000000

noncomputable section

namespace Cert.Kernel.Tables

open Idealize.ShloMosaic Idealize.SL.Sem Cert.Kernel

theorem ok {F : FTy → Type} [FloatOps F] (m : (ℓ : Loc nD τ sig) → Buf (Elt F) ℓ) : Cert.Kernel.Gen.Ok m :=
  @Cert.KernelIdeal.Tables.ok F _ m

end Cert.Kernel.Tables

end
-- ==== Proof.Payload.lean ====
/- What one grid point does, as values: the accumulator it leaves is the accumulator it found (or zero, where the run of points
   of an output block starts) plus the product of the masked, scaled rows by the scaled weights of the point's blocks
   (`step`), the last point of a run stores the accumulator, and a point of an expert without rows adds nothing. -/
module

public import proofs.«01_k».proof.Proof.Tables
public import Idealize.ShloMosaic.Lib.Pipeline.ReadBack
public import Idealize.ShloMosaic.PureOps.Ideal

@[expose] public section

set_option maxRecDepth 16384

noncomputable section

namespace Cert.KernelIdeal.Payload

open Idealize.ShloMosaic Idealize.ShloMosaic.TcCoe Idealize.SL.Sem
open Cert.KernelIdeal Cert.KernelIdeal.Gen

/-- Column block `k` of the staged rows, times column `k` of the scales. -/
def xp (M : FVec Ideal S512x16 .f32) (X : Vec Ideal S1x512x2048 .fp8e4m3) (k : Fin 16) : FVec Ideal S512x128 .bf16 :=
  mulf (extf .bf16 (shapeCast S512x128 (View.ld X (Rect.unit (s := S1x512x2048) ![0, 0, 128 * k.val] S1x512x128.size
      (by revert k; decide +kernel))) shapeCasts_S1x512x128_S512x128) bitsLt_fp8e4m3_bf16)
    (broadcastTo S512x128 (truncf .bf16 (extractStridedSlice S512x1 ![0, k.val] M (by revert k; decide +kernel)) bitsLt_bf16_f32)
      broadcasts_S512x1_S512x128)

/-- Block `(k, n)` of the staged weights, times its scale. -/
def wp (W : Vec Ideal S1x2048x512 .fp8e4m3) (X : Vec Ideal S1x1x1x16x4 .f32) (k : Fin 16) (n : Fin 4) : FVec Ideal S128x128 .bf16 :=
  mulf (extf .bf16 (shapeCast S128x128 (View.ld W (Rect.unit (s := S1x2048x512) ![0, 128 * k.val, 128 * n.val] S1x128x128.size
      (by revert k n; decide +kernel))) shapeCasts_S1x128x128_S128x128) bitsLt_fp8e4m3_bf16)
    (broadcastTo S128x128 (truncf .bf16 (shapeCast S1x1 (View.ld X (Rect.unit (s := S1x1x1x16x4) ![0, 0, 0, k.val, n.val] S1x1x1x1x1.size
      (by revert k n; decide +kernel))) shapeCasts_S1x1x1x1x1_S1x1) bitsLt_bf16_f32) broadcasts_S1x1_S128x128)

/-- Row block `k` of the scaled weights: its four blocks side by side. -/
def wrow (W : Vec Ideal S1x2048x512 .fp8e4m3) (X : Vec Ideal S1x1x1x16x4 .f32) (k : Fin 16) : FVec Ideal S128x512 .bf16 :=
  concatenate S128x512 1 [⟨S128x128, wp W X k 0⟩, ⟨S128x128, wp W X k 1⟩, ⟨S128x128, wp W X k 2⟩, ⟨S128x128, wp W X k 3⟩]
    concatenates_S128x128_S128x128_S128x128_S128x128_S128x512_d1

/-- The accumulator after a point of an expert with rows, from the first and one-past-last row of its segment and the staged blocks. -/
def step (st en : BitVec 32) (x0 : Vec Ideal S1x512x2048 .fp8e4m3) (x1 : Vec Ideal S1x1x512x16 .f32) (x2 : Vec Ideal S1x2048x512 .fp8e4m3)
    (x3 : Vec Ideal S1x1x1x16x4 .f32) (acc : Vec Ideal S512x512 .f32) : FVec Ideal S512x512 .f32 :=
  k0_pay81 acc
    (concatenate S512x2048 1 (List.ofFn fun k : Fin 16 => ⟨S512x128, xp (k0_pay3 st en (View.ld x1 (Rect.unit (s := S1x1x512x16) ![0, 0, 0, 0] S1x1x512x16.size inb_S1x1x512x16_S1x1x512x16_0_0_0_0))) x0 k⟩) concatenates_S512x128_S512x128_S512x128_S512x128_S512x128_S512x128_S512x128_S512x128_S512x128_S512x128_S512x128_S512x128_S512x128_S512x128_S512x128_S512x128_S512x2048_d1)
    (concatenate S2048x512 0 (List.ofFn fun k : Fin 16 => ⟨S128x512, wrow x2 x3 k⟩) concatenates_S128x512_S128x512_S128x512_S128x512_S128x512_S128x512_S128x512_S128x512_S128x512_S128x512_S128x512_S128x512_S128x512_S128x512_S128x512_S128x512_S2048x512_d0)

/-- The first row of the point's segment, read from its table. -/
def word2 (c : Dev nD) (i : grid0.Coords) (xt : TbBuf0 (F := Ideal) c tbM0_2) : BitVec 32 :=
  View.ld (Val := Elt Ideal) (e' := .i32) (View.read (Elt Ideal) (View.whole main_v17) xt) (Rect.unit (s := S40) (k0_off2 i) S1.size (k0_off2_inb i)) (Shape.Idx.first (numel1_S1.symm ▸ Nat.one_pos))
/-- The row after the last of the point's segment, read from its table. -/
def word3 (c : Dev nD) (i : grid0.Coords) (xt : TbBuf0 (F := Ideal) c tbM0_3) : BitVec 32 :=
  View.ld (Val := Elt Ideal) (e' := .i32) (View.read (Elt Ideal) (View.whole main_v18) xt) (Rect.unit (s := S40) (k0_off2 i) S1.size (k0_off2_inb i)) (Shape.Idx.first (numel1_S1.symm ▸ Nat.one_pos))

/-- A concatenation depends on its pieces alone. -/
theorem concat_congr {α : Type} {t : Shape} {a : Fin t.rank} {l l' : List ((s : Shape) × (s.Idx → α))} (h' : Shape.Concatenates (l'.map (·.1)) t a)
    (e : l = l') {h : Shape.Concatenates (l.map (·.1)) t a} : concatenate t a l h = concatenate t a l' h' := by
  subst e; rfl
theorem ofFn16 {α : Type} (f : Fin 16 → α) :
    List.ofFn f = [f 0, f 1, f 2, f 3, f 4, f 5, f 6, f 7, f 8, f 9, f 10, f 11, f 12, f 13, f 14, f 15] := rfl
theorem ofFn4 {α : Type} (f : Fin 4 → α) : List.ofFn f = [f 0, f 1, f 2, f 3] := rfl

set_option maxHeartbeats 1000000 in
theorem sout_C  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : ¬cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (xs0 : Vec Ideal S512x512 .f32) (hc1 : cond0_1 i (tbM0_0.view.readAt (Elt Ideal) (Rect.unit (s := S40) (k0_off1 i) S1.size (k0_off1_inb i)).toLoadRect xt0 (Shape.Idx.first (numel1_S1.symm ▸ Nat.one_pos)))) :
    sout0_C_0 c i arg8 harg8 arg9 harg9 arg10 harg10 arg11 harg11 arg12 harg12 arg13 harg13 hc0 hc2 x0 x1 x2 x3 xt0 xt1 xt2 xt3 xs0 hc1 = step (word2 c i xt2) (word3 c i xt3) x0 x1 x2 x3 xs0 := by
  funext y
  unfold sout0_C_0
  frame_out
  rw [harg8.read_unread, harg9.read_unread, harg10.read_unread, harg11.read_unread]
  refine congrFun (congrArg₂ (k0_pay81 xs0) (concat_congr _ ?_) (concat_congr _ ?_)) y
  · refine Eq.trans ?_ (ofFn16 _).symm
    repeat' first | refine congrArg₂ List.cons (congrArg (Sigma.mk _) ?_) ?_ | rfl
  · refine Eq.trans ?_ (ofFn16 _).symm
    repeat' first | refine congrArg₂ List.cons (congrArg (Sigma.mk _) ?_) ?_ | rfl

set_option maxHeartbeats 1000000 in
theorem sout_A  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (hc1 : cond0_1 i (tbM0_0.view.readAt (Elt Ideal) (Rect.unit (s := S40) (k0_off1 i) S1.size (k0_off1_inb i)).toLoadRect xt0 (Shape.Idx.first (numel1_S1.symm ▸ Nat.one_pos)))) :
    sout0_A_0 c i arg8 harg8 arg9 harg9 arg10 harg10 arg11 harg11 arg12 harg12 arg13 harg13 hc0 hc2 x0 x1 x2 x3 xt0 xt1 xt2 xt3 hc1 = step (word2 c i xt2) (word3 c i xt3) x0 x1 x2 x3 (k0_pay1 (F := Ideal)) := by
  funext y
  unfold sout0_A_0
  frame_out
  rw [harg8.read_unread, harg9.read_unread, harg10.read_unread, harg11.read_unread]
  refine congrFun (congrArg₂ (k0_pay81 (F := Ideal) (k0_pay1 (F := Ideal))) (concat_congr _ ?_) (concat_congr _ ?_)) y
  · refine Eq.trans ?_ (ofFn16 _).symm
    repeat' first | refine congrArg₂ List.cons (congrArg (Sigma.mk _) ?_) ?_ | rfl
  · refine Eq.trans ?_ (ofFn16 _).symm
    repeat' first | refine congrArg₂ List.cons (congrArg (Sigma.mk _) ?_) ?_ | rfl

set_option maxHeartbeats 1000000 in
theorem sout_B  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : cond0_0 i) (hc2 : ¬cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (hc1 : ¬cond0_1 i (tbM0_0.view.readAt (Elt Ideal) (Rect.unit (s := S40) (k0_off1 i) S1.size (k0_off1_inb i)).toLoadRect xt0 (Shape.Idx.first (numel1_S1.symm ▸ Nat.one_pos)))) :
    sout0_B_0 c i arg8 harg8 arg9 harg9 arg10 harg10 arg11 harg11 arg12 harg12 arg13 harg13 hc0 hc2 x0 x1 x2 x3 xt0 xt1 xt2 xt3 hc1 = k0_pay1 (F := Ideal) := by
  funext y
  unfold sout0_B_0
  frame_out

set_option maxHeartbeats 1000000 in
theorem sout_E  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (xs0 : Vec Ideal S512x512 .f32) (hc1 : cond0_1 i (tbM0_0.view.readAt (Elt Ideal) (Rect.unit (s := S40) (k0_off1 i) S1.size (k0_off1_inb i)).toLoadRect xt0 (Shape.Idx.first (numel1_S1.symm ▸ Nat.one_pos)))) :
    sout0_E_0 c i arg8 harg8 arg9 harg9 arg10 harg10 arg11 harg11 arg12 harg12 arg13 harg13 hc0 hc2 x0 x1 x2 x3 xt0 xt1 xt2 xt3 xs0 hc1 = step (word2 c i xt2) (word3 c i xt3) x0 x1 x2 x3 xs0 := by
  funext y
  unfold sout0_E_0
  frame_out
  rw [harg8.read_unread, harg9.read_unread, harg10.read_unread, harg11.read_unread]
  refine congrFun (congrArg₂ (k0_pay81 xs0) (concat_congr _ ?_) (concat_congr _ ?_)) y
  · refine Eq.trans ?_ (ofFn16 _).symm
    repeat' first | refine congrArg₂ List.cons (congrArg (Sigma.mk _) ?_) ?_ | rfl
  · refine Eq.trans ?_ (ofFn16 _).symm
    repeat' first | refine congrArg₂ List.cons (congrArg (Sigma.mk _) ?_) ?_ | rfl

set_option maxHeartbeats 1000000 in
theorem out_E  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (xs0 : Vec Ideal S512x512 .f32) (hc1 : cond0_1 i (tbM0_0.view.readAt (Elt Ideal) (Rect.unit (s := S40) (k0_off1 i) S1.size (k0_off1_inb i)).toLoadRect xt0 (Shape.Idx.first (numel1_S1.symm ▸ Nat.one_pos)))) :
    out0_E_4 c i arg8 harg8 arg9 harg9 arg10 harg10 arg11 harg11 arg12 harg12 arg13 harg13 hc0 hc2 x0 x1 x2 x3 xt0 xt1 xt2 xt3 xs0 hc1 = k0_pay2 (F := Ideal) (step (word2 c i xt2) (word3 c i xt3) x0 x1 x2 x3 xs0) := by
  funext y
  unfold out0_E_4
  frame_out
  rw [harg8.read_unread, harg9.read_unread, harg10.read_unread, harg11.read_unread]
  refine congrFun (congrArg (k0_pay2 (F := Ideal)) (congrArg₂ (k0_pay81 xs0) (concat_congr _ ?_) (concat_congr _ ?_))) y
  · refine Eq.trans ?_ (ofFn16 _).symm
    repeat' first | refine congrArg₂ List.cons (congrArg (Sigma.mk _) ?_) ?_ | rfl
  · refine Eq.trans ?_ (ofFn16 _).symm
    repeat' first | refine congrArg₂ List.cons (congrArg (Sigma.mk _) ?_) ?_ | rfl

set_option maxHeartbeats 1000000 in
theorem out_F  (c : Dev nD) (i : grid0.Coords) (arg8 : Memref sig .tc .vmem S1x512x2048 .fp8e4m3) (harg8 : arg8.IsWhole) (arg9 : Memref sig .tc .vmem S1x1x512x16 .f32) (harg9 : arg9.IsWhole) (arg10 : Memref sig .tc .vmem S1x2048x512 .fp8e4m3) (harg10 : arg10.IsWhole) (arg11 : Memref sig .tc .vmem S1x1x1x16x4 .f32) (harg11 : arg11.IsWhole) (arg12 : Memref sig .tc .vmem S1x512x512 .bf16) (harg12 : arg12.IsWhole) (arg13 : Memref sig .tc .vmem S512x512 .f32) (harg13 : arg13.IsWhole) (hc0 : ¬cond0_0 i) (hc2 : cond0_2 i)
    (x0 : Vec Ideal S1x512x2048 .fp8e4m3) (x1 : Vec Ideal S1x1x512x16 .f32) (x2 : Vec Ideal S1x2048x512 .fp8e4m3) (x3 : Vec Ideal S1x1x1x16x4 .f32) (xt0 : TbBuf0 (F := Ideal) c tbM0_0) (xt1 : TbBuf0 (F := Ideal) c tbM0_1) (xt2 : TbBuf0 (F := Ideal) c tbM0_2) (xt3 : TbBuf0 (F := Ideal) c tbM0_3) (xs0 : Vec Ideal S512x512 .f32) (hc1 : ¬cond0_1 i (tbM0_0.view.readAt (Elt Ideal) (Rect.unit (s := S40) (k0_off1 i) S1.size (k0_off1_inb i)).toLoadRect xt0 (Shape.Idx.first (numel1_S1.symm ▸ Nat.one_pos)))) :
    out0_F_4 c i arg8 harg8 arg9 harg9 arg10 harg10 arg11 harg11 arg12 harg12 arg13 harg13 hc0 hc2 x0 x1 x2 x3 xt0 xt1 xt2 xt3 xs0 hc1 = k0_pay2 (F := Ideal) xs0 := by
  funext y
  unfold out0_F_4
  frame_out

end Cert.KernelIdeal.Payload

end
-- ==== Proof.Step.lean ====
/- One grid point at an index: the accumulator plus the sum, over the 2048 columns of the point's blocks, of the masked scaled
   row times the scaled weight. -/
module

public import proofs.«01_k».proof.Proof.Payload

@[expose] public section

set_option maxRecDepth 16384

noncomputable section

namespace Cert.KernelIdeal.Payload

open Idealize.ShloMosaic Idealize.ShloMosaic.TcCoe Idealize.SL.Sem
open Cert.KernelIdeal Cert.KernelIdeal.Gen

/-- Whether row `r` lies in the segment from `st` to `en`. -/
def mine (st en : BitVec 32) (r : Fin 512) : BitVec 1 :=
  IntOp.andi (IntOp.cmpi .sge (BitVec.ofNat 32 r.val) st) (IntOp.cmpi .slt (BitVec.ofNat 32 r.val) en)

/-- The 128-wide block of a column of 2048. -/
abbrev kb (q : Fin 2048) : Fin 16 := ⟨q.val / 128, by have := q.isLt; omega⟩
/-- The 128-wide block of a column of 512. -/
abbrev nb (f : Fin 512) : Fin 4 := ⟨f.val / 128, by have := f.isLt; omega⟩

theorem pay3_at (st en : BitVec 32) (x1 : Vec Ideal S1x1x512x16 .f32) (r : Fin 512) (k : Fin 16) :
    k0_pay3 st en x1 (ix2 r k) = Scalar.select (mine st en r) (x1 (ix4 0 0 r k)) (0 : EReal) := by
  pointwise [k0_pay3]
  rfl

theorem mulf_at {s : Shape} (a b : FVec Ideal s .bf16) (i : s.Idx) : mulf a b i = ((a i : EReal) * (b i : EReal) : EReal) := rfl

theorem pay81_at (acc : Vec Ideal S512x512 .f32) (A : FVec Ideal S512x2048 .bf16) (B : FVec Ideal S2048x512 .bf16) (r f : Fin 512) :
    k0_pay81 acc A B (ix2 r f) = (acc (ix2 r f) + ∑ q : Fin 2048, (A (ix2 r q) : EReal) * (B (ix2 q f) : EReal) : EReal) := by
  pointwise [k0_pay81]

theorem xcol_at (L : Vec Ideal S1x512x128 .fp8e4m3) (r : Fin 512) (b : Fin 128) :
    extf (F := Ideal) .bf16 (shapeCast S512x128 L shapeCasts_S1x512x128_S512x128) bitsLt_fp8e4m3_bf16 (ix2 r b) = (L (ix3 0 r b) : EReal) := by
  pointwise

theorem scol_at (L : FVec Ideal S512x1 .f32) (r : Fin 512) (b : Fin 128) :
    broadcastTo S512x128 (truncf .bf16 L bitsLt_bf16_f32) broadcasts_S512x1_S512x128 (ix2 r b) = (L (ix2 r 0) : EReal) := by
  pointwise

theorem wblk_at (L : Vec Ideal S1x128x128 .fp8e4m3) (a b : Fin 128) :
    extf (F := Ideal) .bf16 (shapeCast S128x128 L shapeCasts_S1x128x128_S128x128) bitsLt_fp8e4m3_bf16 (ix2 a b) = (L (ix3 0 a b) : EReal) := by
  pointwise

theorem sone_at (L : Vec Ideal S1x1x1x1x1 .f32) (a b : Fin 128) :
    broadcastTo S128x128 (truncf (F := Ideal) .bf16 (shapeCast S1x1 L shapeCasts_S1x1x1x1x1_S1x1) bitsLt_bf16_f32) broadcasts_S1x1_S128x128 (ix2 a b) = (L (ix5 0 0 0 0 0) : EReal) := by
  pointwise

theorem xcat_at (M : FVec Ideal S512x16 .f32) (X : Vec Ideal S1x512x2048 .fp8e4m3) (r : Fin 512) (q : Fin 2048) :
    concatenate S512x2048 1 (List.ofFn fun k : Fin 16 => ⟨S512x128, xp M X k⟩)
      concatenates_S512x128_S512x128_S512x128_S512x128_S512x128_S512x128_S512x128_S512x128_S512x128_S512x128_S512x128_S512x128_S512x128_S512x128_S512x128_S512x128_S512x2048_d1 (ix2 r q)
      = (X (ix3 0 r q) * M (ix2 r (kb q)) : EReal) := by
  refine (concatenate_ofFn_apply (t := S512x2048) (s₁ := S512x128) 1 (fun k => xp M X k) _ rfl 128 rfl (ix2 r q) (kb q) rfl
    (ix2 r (⟨q.val % 128, Nat.mod_lt _ (by decide)⟩ : Fin 128)) rfl (fun b hb => ?_)).trans ?_
  · match b with
    | ⟨0, _⟩ => rfl
    | ⟨1, _⟩ => exact absurd rfl hb
  have eL : ∀ h, View.ld (Val := Elt Ideal) (e' := .fp8e4m3) X (Rect.unit (s := S1x512x2048) ![0, 0, 128 * (kb q).val] S1x512x128.size h)
      (ix3 (0 : Fin 1) r (⟨q.val % 128, Nat.mod_lt _ (by decide)⟩ : Fin 128)) = X (ix3 0 r q) := fun h =>
    View.ld_unit_apply_of X _ _ h _ _ fun a => match a with
      | ⟨0, _⟩ => rfl
      | ⟨1, _⟩ => (Nat.zero_add _).symm
      | ⟨2, _⟩ => (Nat.div_add_mod q.val 128).symm
  have eM : ∀ h, extractStridedSlice S512x1 ![0, (kb q).val] M h (ix2 r (0 : Fin 1)) = M (ix2 r (kb q)) := fun h =>
    congrArg M (funext fun a => Fin.ext (match a with
      | ⟨0, _⟩ => Nat.zero_add _
      | ⟨1, _⟩ => rfl))
  unfold xp
  exact (mulf_at _ _ _).trans (congrArg₂ (fun u v : EReal => u * v) ((xcol_at _ r _).trans (eL _)) ((scol_at _ r _).trans (eM _)))

theorem wp_at (W : Vec Ideal S1x2048x512 .fp8e4m3) (X : Vec Ideal S1x1x1x16x4 .f32) (k : Fin 16) (n : Fin 4) (a b : Fin 128) :
    wp W X k n (ix2 a b) = (W (ix3 0 ⟨128 * k.val + a.val, by omega⟩ ⟨128 * n.val + b.val, by omega⟩) * X (ix5 0 0 0 k n) : EReal) := by
  have eL : ∀ h, View.ld (Val := Elt Ideal) (e' := .fp8e4m3) W (Rect.unit (s := S1x2048x512) ![0, 128 * k.val, 128 * n.val] S1x128x128.size h)
      (ix3 (0 : Fin 1) a b) = W (ix3 0 ⟨128 * k.val + a.val, by omega⟩ ⟨128 * n.val + b.val, by omega⟩) := fun h =>
    View.ld_unit_apply_of W _ _ h _ _ fun a => match a with
      | ⟨0, _⟩ => rfl
      | ⟨1, _⟩ => rfl
      | ⟨2, _⟩ => rfl
  have eM : ∀ h, View.ld (Val := Elt Ideal) (e' := .f32) X (Rect.unit (s := S1x1x1x16x4) ![0, 0, 0, k.val, n.val] S1x1x1x1x1.size h)
      (ix5 (0 : Fin 1) (0 : Fin 1) (0 : Fin 1) (0 : Fin 1) (0 : Fin 1)) = X (ix5 0 0 0 k n) := fun h =>
    View.ld_unit_apply_of X _ _ h _ _ fun a => match a with
      | ⟨0, _⟩ => rfl
      | ⟨1, _⟩ => rfl
      | ⟨2, _⟩ => rfl
      | ⟨3, _⟩ => rfl
      | ⟨4, _⟩ => rfl
  unfold wp
  exact (mulf_at _ _ _).trans (congrArg₂ (fun u v : EReal => u * v) ((wblk_at _ a b).trans (eL _)) ((sone_at _ a b).trans (eM _)))

theorem wrow_at (W : Vec Ideal S1x2048x512 .fp8e4m3) (X : Vec Ideal S1x1x1x16x4 .f32) (k : Fin 16) (a : Fin 128) (f : Fin 512) :
    wrow W X k (ix2 a f) = (W (ix3 0 ⟨128 * k.val + a.val, by omega⟩ f) * X (ix5 0 0 0 k (nb f)) : EReal) := by
  have e : wrow W X k = concatenate S128x512 1 (List.ofFn fun n : Fin 4 => ⟨S128x128, wp W X k n⟩)
    concatenates_S128x128_S128x128_S128x128_S128x128_S128x512_d1 := rfl
  refine (congrFun e _).trans ((concatenate_ofFn_apply (t := S128x512) (s₁ := S128x128) 1 (fun n => wp W X k n) _ rfl 128 rfl (ix2 a f) (nb f) rfl
    (ix2 a (⟨f.val % 128, Nat.mod_lt _ (by decide)⟩ : Fin 128)) rfl (fun b hb => ?_)).trans ((wp_at W X k (nb f) a _).trans ?_))
  · match b with
    | ⟨0, _⟩ => rfl
    | ⟨1, _⟩ => exact absurd rfl hb
  · have h : (⟨128 * (nb f).val + f.val % 128, by have := f.isLt; show 128 * (f.val / 128) + f.val % 128 < 512; omega⟩ : Fin 512) = f := Fin.ext (Nat.div_add_mod f.val 128)
    exact congrArg (fun g : Fin 512 => (W (ix3 0 ⟨128 * k.val + a.val, by omega⟩ g) * X (ix5 0 0 0 k (nb f)) : EReal)) h

theorem wcat_at (W : Vec Ideal S1x2048x512 .fp8e4m3) (X : Vec Ideal S1x1x1x16x4 .f32) (q : Fin 2048) (f : Fin 512) :
    concatenate S2048x512 0 (List.ofFn fun k : Fin 16 => ⟨S128x512, wrow W X k⟩)
      concatenates_S128x512_S128x512_S128x512_S128x512_S128x512_S128x512_S128x512_S128x512_S128x512_S128x512_S128x512_S128x512_S128x512_S128x512_S128x512_S128x512_S2048x512_d0 (ix2 q f)
      = (W (ix3 0 q f) * X (ix5 0 0 0 (kb q) (nb f)) : EReal) := by
  refine (concatenate_ofFn_apply (t := S2048x512) (s₁ := S128x512) 0 (fun k => wrow W X k) _ rfl 128 rfl (ix2 q f) (kb q) rfl
    (ix2 (⟨q.val % 128, Nat.mod_lt _ (by decide)⟩ : Fin 128) f) rfl (fun b hb => ?_)).trans ((wrow_at W X (kb q) _ f).trans ?_)
  · match b with
    | ⟨0, _⟩ => exact absurd rfl hb
    | ⟨1, _⟩ => rfl
  · have h : (⟨128 * (kb q).val + q.val % 128, by have := q.isLt; show 128 * (q.val / 128) + q.val % 128 < 2048; omega⟩ : Fin 2048) = q := Fin.ext (Nat.div_add_mod q.val 128)
    exact congrArg (fun g : Fin 2048 => (W (ix3 0 g f) * X (ix5 0 0 0 (kb q) (nb f)) : EReal)) h

/-- One point at an index. -/
theorem step_at (st en : BitVec 32) (x0 : Vec Ideal S1x512x2048 .fp8e4m3) (x1 : Vec Ideal S1x1x512x16 .f32) (x2 : Vec Ideal S1x2048x512 .fp8e4m3)
    (x3 : Vec Ideal S1x1x1x16x4 .f32) (acc : Vec Ideal S512x512 .f32) (r f : Fin 512) :
    step st en x0 x1 x2 x3 acc (ix2 r f) = (acc (ix2 r f) + ∑ q : Fin 2048, (x0 (ix3 0 r q) * Scalar.select (mine st en r) (x1 (ix4 0 0 r (kb q))) (0 : EReal))
      * (x2 (ix3 0 q f) * x3 (ix5 0 0 0 (kb q) (nb f))) : EReal) := by
  refine (pay81_at _ _ _ r f).trans (congrArg (fun u : EReal => (acc (ix2 r f) : EReal) + u) (Finset.sum_congr rfl fun q _ => ?_))
  refine congrArg₂ (fun u v : EReal => u * v) ((xcat_at _ x0 r q).trans ?_) (wcat_at x2 x3 q f)
  rw [View.ld_unit_lit _ x1 (by decide), pay3_at]

end Cert.KernelIdeal.Payload

end
-- ==== Proof.Blocks.lean ====
/- What one grid point reads: the words of the tables at the point's source and expert, and, where the expert has rows, the
   blocks staged, as entries of the argument arrays. -/
module

public import Idealize.ShloMosaic.Lib.Pipeline.ValueKit
public import proofs.«01_k».proof.Proof.Step

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Tables Cert.KernelIdeal.Payload
open Idealize.ShloMosaic.ValueKit (rect_emb_unit_val view_emb_slice_whole_unit_val)

/-- The coordinates of a point: the source, the block of columns, the expert, the block of the contraction. -/
def cs (i : grid0.Coords) : Fin 10 := i 0
def cn (i : grid0.Coords) : Fin 11 := i 1
def ce (i : grid0.Coords) : Fin 4 := i 2
def ck (i : grid0.Coords) : Fin 8 := i 3

/-! ## The words of the tables -/

/-- A flat table of forty, read at the word of a point, is the matrix at the point's source and expert. -/
theorem word_at {α : Type} (i : grid0.Coords) (Y : S10x4.Idx → α) (off : Fin 1 → ℕ) (ho : off = k0_off1 i) (inb) (h) :
    shapeCast S40 Y shapeCasts_S10x4_S40 ((Rect.unit (s := S40) off S1.size inb).emb (Shape.Idx.first h)) = Y (ix2 (cs i) (ce i)) := by
  subst ho
  rw [flat_at]
  have h0 : (cs i).val < 10 := (cs i).isLt
  have h2 : (ce i).val < 4 := (ce i).isLt
  have e : (((Rect.unit (s := S40) (k0_off1 i) S1.size inb).emb (Shape.Idx.first h) (0 : Fin 1) : Fin 40) : ℕ) = 4 * (cs i).val + (ce i).val := by
    have := rect_emb_unit_val (s := S40) (k0_off1 i) S1.size inb (Shape.Idx.first h) 0
    refine this.trans ?_
    refine (congrArg (· + _) (congrFun (off_at i) 0)).trans ?_
    have hf : ((Shape.Idx.first h : (Rect.unit (s := S40) (k0_off1 i) S1.size inb).shape.Idx) (0 : Fin 1)).val < 1 := Fin.isLt _
    show 4 * (cs i).val + (ce i).val + _ = _
    omega
  refine congrArg Y ?_
  funext a
  apply Fin.ext
  match a with
  | ⟨0, _⟩ => show ((Rect.unit (s := S40) (k0_off1 i) S1.size inb).emb (Shape.Idx.first h) (0 : Fin 1) : Fin 40).val / 4 = (cs i).val; rw [e]; omega
  | ⟨1, _⟩ => show ((Rect.unit (s := S40) (k0_off1 i) S1.size inb).emb (Shape.Idx.first h) (0 : Fin 1) : Fin 40).val % 4 = (ce i).val; rw [e]; omega

variable (m : (ℓ : Loc nD τ sig) → Buf (Elt Ideal) ℓ)

/-- The arguments, as arrays. -/
abbrev aX : S10x512x16384.Idx → EReal := m (((0 : Dev nD) : Thread nD τ).loc main_arg0)
abbrev aXS : S10x512x128.Idx → EReal := m (((0 : Dev nD) : Thread nD τ).loc main_arg1)
abbrev aW : S4x16384x5632.Idx → EReal := m (((0 : Dev nD) : Thread nD τ).loc main_arg2)
abbrev aWS : S4x128x44.Idx → EReal := m (((0 : Dev nD) : Thread nD τ).loc main_arg3)
abbrev aC : S10x4.Idx → BitVec 32 := m (((0 : Dev nD) : Thread nD τ).loc main_arg4)

/-- Whether an expert has rows. -/
abbrev has (C : S10x4.Idx → BitVec 32) (s : Fin 10) (e : Fin 4) : Prop := IntOp.cmpi .sgt (C (ix2 s e)) 0#32 = 1#1

theorem tbl0 : tbl m 0 = shapeCast S40 (live (aC m)) shapeCasts_S10x4_S40 := V_v15 m 0
theorem tbl1 : tbl m 1 = shapeCast S40 (held (aC m)) shapeCasts_S10x4_S40 := V_v16 m 0
theorem tbl2 : tbl m 2 = shapeCast S40 (start (aC m)) shapeCasts_S10x4_S40 := V_v17 m 0
theorem tbl3 : tbl m 3 = shapeCast S40 (stop (aC m)) shapeCasts_S10x4_S40 := V_v18 m 0

/-- A word read from a table through its view is the table's entry. -/
theorem readAt_word (i : grid0.Coords) (X : S40.Idx → BitVec 32) :
    tbM0_0.view.readAt (Elt Ideal) (Rect.unit (s := S40) (k0_off1 i) S1.size (k0_off1_inb i)).toLoadRect X (Shape.Idx.first (numel1_S1.symm ▸ Nat.one_pos))
      = X ((Rect.unit (s := S40) (k0_off1 i) S1.size (k0_off1_inb i)).emb (Shape.Idx.first (numel1_S1.symm ▸ Nat.one_pos))) := rfl
theorem word2_word (c : Dev nD) (i : grid0.Coords) (X : S40.Idx → BitVec 32) :
    word2 c i X = X ((Rect.unit (s := S40) (k0_off1 i) S1.size (k0_off1_inb i)).emb (Shape.Idx.first (numel1_S1.symm ▸ Nat.one_pos))) := rfl
theorem word3_word (c : Dev nD) (i : grid0.Coords) (X : S40.Idx → BitVec 32) :
    word3 c i X = X ((Rect.unit (s := S40) (k0_off1 i) S1.size (k0_off1_inb i)).emb (Shape.Idx.first (numel1_S1.symm ▸ Nat.one_pos))) := rfl

theorem cond_iff (i : grid0.Coords) :
    cond0_1 i (tbM0_0.view.readAt (Elt Ideal) (Rect.unit (s := S40) (k0_off1 i) S1.size (k0_off1_inb i)).toLoadRect (tbl m 0) (Shape.Idx.first (numel1_S1.symm ▸ Nat.one_pos)))
      ↔ has (aC m) (cs i) (ce i) := by
  have e : tbM0_0.view.readAt (Elt Ideal) (Rect.unit (s := S40) (k0_off1 i) S1.size (k0_off1_inb i)).toLoadRect (tbl m 0) (Shape.Idx.first (numel1_S1.symm ▸ Nat.one_pos))
      = live (aC m) (ix2 (cs i) (ce i)) := by
    exact (readAt_word i (tbl m 0)).trans ((congrFun (tbl0 m) _).trans (word_at i _ _ rfl _ _))
  rw [e, live_at]
  unfold cond0_1
  by_cases h : has (aC m) (cs i) (ce i)
  · rw [if_pos h]; exact ⟨fun _ => h, fun _ => by decide⟩
  · rw [if_neg h]; exact ⟨fun h' => absurd h' (by decide), fun h' => absurd h' h⟩

theorem word2_at (c : Dev nD) (i : grid0.Coords) : word2 c i (tbl m 2) = start (aC m) (ix2 (cs i) (ce i)) := by
  exact (word2_word c i (tbl m 2)).trans ((congrFun (tbl2 m) _).trans (word_at i _ _ rfl _ _))
theorem word3_at (c : Dev nD) (i : grid0.Coords) : word3 c i (tbl m 3) = stop (aC m) (ix2 (cs i) (ce i)) := by
  exact (word3_word c i (tbl m 3)).trans ((congrFun (tbl3 m) _).trans (word_at i _ _ rfl _ _))

/-! ## The blocks staged -/

section
variable {i : grid0.Coords} (hl : has (aC m) (cs i) (ce i))
include hl

theorem kk_at (v : BitVec 32) (hv : v = live (aC m) (ix2 (cs i) (ce i))) :
    (Scalar.select (Scalar.cmpi .sgt v 0#32) (BitVec.ofNat 32 (ck i).val) 7#32).toNat = (ck i).val := by
  have h3 : (ck i).val < 8 := (ck i).isLt
  rw [sel_toNat _ _ h3, hv, live_at, if_pos hl]
  rfl

theorem map0 : cc0_transform_0 k0_off1_inb numel1_S1 (tbl m) i = ![(cs i).val, 0, (ck i).val] := by
  have h0 : (cs i).val < 10 := (cs i).isLt
  unfold cc0_transform_0
  have e := kk_at m hl (tbl m 0 ((Rect.unit (s := S40) (k0_off1 i) S1.size (k0_off1_inb i)).emb (Shape.Idx.first (numel1_S1.symm ▸ Nat.one_pos)))) ((congrFun (tbl0 m) _).trans (word_at i _ _ rfl _ _))
  have e0 : (BitVec.ofNat 32 (cs i).val).toNat = (cs i).val := by simp; omega
  exact congrArg₂ (fun a b : ℕ => ![a, 0, b]) e0 e

theorem map1 : cc0_transform_1 k0_off1_inb numel1_S1 (tbl m) i = ![(cs i).val, (ck i).val, 0, 0] := by
  have h0 : (cs i).val < 10 := (cs i).isLt
  unfold cc0_transform_1
  have e := kk_at m hl (tbl m 0 ((Rect.unit (s := S40) (k0_off1 i) S1.size (k0_off1_inb i)).emb (Shape.Idx.first (numel1_S1.symm ▸ Nat.one_pos)))) ((congrFun (tbl0 m) _).trans (word_at i _ _ rfl _ _))
  have e0 : (BitVec.ofNat 32 (cs i).val).toNat = (cs i).val := by simp; omega
  exact congrArg₂ (fun a b : ℕ => ![a, b, 0, 0]) e0 e

theorem held_word : (tbl m 1 ((Rect.unit (s := S40) (k0_off1 i) S1.size (k0_off1_inb i)).emb (Shape.Idx.first (numel1_S1.symm ▸ Nat.one_pos))) : BitVec 32).toNat = (ce i).val := by
  have h2 : (ce i).val < 4 := (ce i).isLt
  have e : tbl m 1 ((Rect.unit (s := S40) (k0_off1 i) S1.size (k0_off1_inb i)).emb (Shape.Idx.first (numel1_S1.symm ▸ Nat.one_pos)))
      = held (aC m) (ix2 (cs i) (ce i)) := (congrFun (tbl1 m) _).trans (word_at i _ _ rfl _ _)
  rw [e, (held_at _ _ _).2 hl]
  show (BitVec.ofNat 32 (ce i).val).toNat = _
  simp; omega

theorem map2 : cc0_transform_2 k0_off1_inb numel1_S1 (tbl m) i = ![(ce i).val, (ck i).val, (cn i).val] := by
  have h1 : (cn i).val < 11 := (cn i).isLt
  unfold cc0_transform_2
  have e := kk_at m hl (tbl m 0 ((Rect.unit (s := S40) (k0_off1 i) S1.size (k0_off1_inb i)).emb (Shape.Idx.first (numel1_S1.symm ▸ Nat.one_pos)))) ((congrFun (tbl0 m) _).trans (word_at i _ _ rfl _ _))
  have e1 : (BitVec.ofNat 32 (cn i).val).toNat = (cn i).val := by simp; omega
  have e2 := held_word m hl
  exact congr (congrArg₂ (fun a b c : ℕ => ![a, b, c]) e2 e) e1

theorem map3 : cc0_transform_3 k0_off1_inb numel1_S1 (tbl m) i = ![(ce i).val, (ck i).val, (cn i).val, 0, 0] := by
  have h1 : (cn i).val < 11 := (cn i).isLt
  unfold cc0_transform_3
  have e := kk_at m hl (tbl m 0 ((Rect.unit (s := S40) (k0_off1 i) S1.size (k0_off1_inb i)).emb (Shape.Idx.first (numel1_S1.symm ▸ Nat.one_pos)))) ((congrFun (tbl0 m) _).trans (word_at i _ _ rfl _ _))
  have e1 : (BitVec.ofNat 32 (cn i).val).toNat = (cn i).val := by simp; omega
  have e2 := held_word m hl
  exact congr (congrArg₂ (fun a b c : ℕ => ![a, b, c, 0, 0]) e2 e) e1
end

section
variable (hO : Ok m) (t : Fin (cfgM m hO).N)

/-- Where an entry of a block lies, for an index map in the words of the tables. -/
theorem emb0 (j : S1x512x2048.Idx) (a : Fin 3) : ((((cfgM m hO).win 0).blk t).view.emb j a).val
    = cc0_transform_0 k0_off1_inb numel1_S1 (tbl m) (grid0.coords t) a * S1x512x2048.size a + (j a).val :=
  view_emb_slice_whole_unit_val main_arg0 _ _ _ _ a
theorem emb1 (j : S1x1x512x16.Idx) (a : Fin 4) : ((((cfgM m hO).win 1).blk t).view.emb j a).val
    = cc0_transform_1 k0_off1_inb numel1_S1 (tbl m) (grid0.coords t) a * S1x1x512x16.size a + (j a).val :=
  view_emb_slice_whole_unit_val main_v12 _ _ _ _ a
theorem ixe2 (pf : pre0.Contents (Elt Ideal)) (i : grid0.Coords) : ix0 pf 2 i = cc0_transform_2 k0_off1_inb numel1_S1 pf i := by exact rfl
theorem ixe3 (pf : pre0.Contents (Elt Ideal)) (i : grid0.Coords) : ix0 pf 3 i = cc0_transform_3 k0_off1_inb numel1_S1 pf i := by unfold ix0; exact rfl
theorem idxg (a : (pcfg0 (F := Ideal)).Adm) (w : Fin 5) (t : Fin (cfg0 a).N) : ((cfg0 a).win w).index t = ix0 a.1 w (grid0.coords t) := by
  exact rfl
theorem idx2 : ((cfgM m hO).win 2).index t = cc0_transform_2 k0_off1_inb numel1_S1 (tbl m) (grid0.coords t) :=
  (idxg (adm m hO) 2 t).trans (ixe2 _ _)
theorem idx3 : ((cfgM m hO).win 3).index t = cc0_transform_3 k0_off1_inb numel1_S1 (tbl m) (grid0.coords t) :=
  (idxg (adm m hO) 3 t).trans (ixe3 _ _)
theorem emb2 (j : S1x2048x512.Idx) (a : Fin 3) : ((((cfgM m hO).win 2).blk t).view.emb j a).val
    = ((cfgM m hO).win 2).index t a * S1x2048x512.size a + (j a).val :=
  view_emb_slice_whole_unit_val main_arg2 _ _ _ _ a
theorem emb3 (j : S1x1x1x16x4.Idx) (a : Fin 5) : ((((cfgM m hO).win 3).blk t).view.emb j a).val
    = ((cfgM m hO).win 3).index t a * S1x1x1x16x4.size a + (j a).val := by
  refine (view_emb_slice_whole_unit_val main_v14 _ _ _ _ a)
theorem emb4 (j : S1x512x512.Idx) (a : Fin 3) : ((((cfgM m hO).win 4).blk t).view.emb j a).val
    = cc0_transform_4 (grid0.coords t) a * S1x512x512.size a + (j a).val :=
  view_emb_slice_whole_unit_val main_v19 _ _ _ _ a
end

/-- The scales of the sources, taken apart and turned, at an index. -/
theorem xscales_at (A : S10x512x128.Idx → EReal) (s : Fin 10) (k : Fin 8) (r : Fin 512) (b : Fin 16) (B : Fin 128) (hB : B.val = 16 * k.val + b.val) :
    transpose S10x8x512x16 [0, 2, 1, 3] (shapeCast S10x512x8x16 A shapeCasts_S10x512x128_S10x512x8x16) transposes_S10x512x8x16_S10x8x512x16_0_2_1_3 (ix4 s k r b) = A (ix3 s r B) := by
  pointwise
  refine congrArg A ?_
  funext a
  apply Fin.ext
  match a with
  | ⟨0, _⟩ => rfl
  | ⟨1, _⟩ => rfl
  | ⟨2, _⟩ => show k.val * 16 + b.val = B.val; omega
/-- The scales of the weights, taken apart and turned, at an index. -/
theorem wscales_at (A : S4x128x44.Idx → EReal) (e : Fin 4) (k : Fin 8) (n : Fin 11) (b : Fin 16) (c : Fin 4) (B : Fin 128) (hB : B.val = 16 * k.val + b.val)
    (C : Fin 44) (hC : C.val = 4 * n.val + c.val) :
    transpose S4x8x11x16x4 [0, 1, 3, 2, 4] (shapeCast S4x8x16x11x4 A shapeCasts_S4x128x44_S4x8x16x11x4) transposes_S4x8x16x11x4_S4x8x11x16x4_0_1_3_2_4 (ix5 e k n b c) = A (ix3 e B C) := by
  pointwise
  refine congrArg A ?_
  funext a
  apply Fin.ext
  match a with
  | ⟨0, _⟩ => rfl
  | ⟨1, _⟩ => show k.val * 16 + b.val = B.val; omega
  | ⟨2, _⟩ => show n.val * 4 + c.val = C.val; omega

section
variable (hO : Ok m) (t : Fin (cfgM m hO).N) (hl : has (aC m) (cs (grid0.coords t)) (ce (grid0.coords t)))
include hl

theorem blk0 (r : Fin 512) (q : Fin 2048) (Q : Fin 16384) (hQ : Q.val = 2048 * (ck (grid0.coords t)).val + q.val) :
    iblk m hO 0 0 t (ix3 (0 : Fin 1) r q) = aX m (ix3 (cs (grid0.coords t)) r Q) := by
  refine congrArg (aX m) (funext fun a => Fin.ext ?_)
  refine (emb0 m hO t (ix3 (0 : Fin 1) r q) a).trans ?_
  rw [map0 m hl]
  match a with
  | ⟨0, _⟩ => exact Nat.mul_one _
  | ⟨1, _⟩ => exact (congrArg (· + r.val) (Nat.zero_mul 512)).trans (Nat.zero_add _)
  | ⟨2, _⟩ => exact (congrArg (· + q.val) (Nat.mul_comm _ _)).trans hQ.symm

theorem blk1 (r : Fin 512) (b : Fin 16) (B : Fin 128) (hB : B.val = 16 * (ck (grid0.coords t)).val + b.val) :
    iblk m hO 0 1 t (ix4 (0 : Fin 1) (0 : Fin 1) r b) = aXS m (ix3 (cs (grid0.coords t)) r B) := by
  refine Eq.trans ?_ ((congrFun (V_v12 m 0) (ix4 (cs (grid0.coords t)) (ck (grid0.coords t)) r b)).trans (xscales_at (aXS m) _ _ r b B hB))
  refine congrArg (V m 0 main_v12) (funext fun a => Fin.ext ?_)
  refine (emb1 m hO t (ix4 (0 : Fin 1) (0 : Fin 1) r b) a).trans ?_
  rw [map1 m hl]
  match a with
  | ⟨0, _⟩ => exact Nat.mul_one _
  | ⟨1, _⟩ => exact Nat.mul_one _
  | ⟨2, _⟩ => exact (congrArg (· + r.val) (Nat.zero_mul 512)).trans (Nat.zero_add _)
  | ⟨3, _⟩ => exact (congrArg (· + b.val) (Nat.zero_mul 16)).trans (Nat.zero_add _)

theorem blk2 (q : Fin 2048) (f : Fin 512) (Q : Fin 16384) (hQ : Q.val = 2048 * (ck (grid0.coords t)).val + q.val)
    (N : Fin 5632) (hN : N.val = 512 * (cn (grid0.coords t)).val + f.val) :
    iblk m hO 0 2 t (ix3 (0 : Fin 1) q f) = aW m (ix3 (ce (grid0.coords t)) Q N) := by
  refine congrArg (aW m) (funext fun a => Fin.ext ?_)
  refine (emb2 m hO t (ix3 (0 : Fin 1) q f) a).trans ?_
  rw [idx2, map2 m hl]
  match a with
  | ⟨0, _⟩ => exact Nat.mul_one _
  | ⟨1, _⟩ => exact (congrArg (· + q.val) (Nat.mul_comm _ _)).trans hQ.symm
  | ⟨2, _⟩ => exact (congrArg (· + f.val) (Nat.mul_comm _ _)).trans hN.symm

theorem blk3 (b : Fin 16) (d : Fin 4) (B : Fin 128) (hB : B.val = 16 * (ck (grid0.coords t)).val + b.val)
    (D : Fin 44) (hD : D.val = 4 * (cn (grid0.coords t)).val + d.val) :
    iblk m hO 0 3 t (ix5 (0 : Fin 1) (0 : Fin 1) (0 : Fin 1) b d) = aWS m (ix3 (ce (grid0.coords t)) B D) := by
  refine Eq.trans ?_ ((congrFun (V_v14 m 0) (ix5 (ce (grid0.coords t)) (ck (grid0.coords t)) (cn (grid0.coords t)) b d)).trans (wscales_at (aWS m) _ _ _ b d B hB D hD))
  refine congrArg (V m 0 main_v14) (funext fun a => Fin.ext ?_)
  refine (emb3 m hO t (ix5 (0 : Fin 1) (0 : Fin 1) (0 : Fin 1) b d) a).trans ?_
  rw [idx3, map3 m hl]
  match a with
  | ⟨0, _⟩ => exact Nat.mul_one _
  | ⟨1, _⟩ => exact Nat.mul_one _
  | ⟨2, _⟩ => exact Nat.mul_one _
  | ⟨3, _⟩ => exact (congrArg (· + b.val) (Nat.zero_mul 16)).trans (Nat.zero_add _)
  | ⟨4, _⟩ => exact (congrArg (· + d.val) (Nat.zero_mul 4)).trans (Nat.zero_add _)
end

end Cert.KernelIdeal.Blocks

end
-- ==== Proof.Acc.lean ====
/- What the kernel leaves in its result: for every source, row and column the sum over the experts with rows and over the whole
   contraction. -/
module

public import proofs.«01_k».proof.Proof.Blocks

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Tables Cert.KernelIdeal.Payload
open Finset (range sum_congr)

variable (m : (ℓ : Loc nD τ sig) → Buf (Elt Ideal) ℓ)

/-- One product of the contraction: the scaled entry of the source, where the row is the expert's, by the scaled weight. -/
def cell (s : Fin 10) (e : Fin 4) (r : Fin 512) (N : Fin 5632) (Q : Fin 16384) : EReal :=
  (aX m (ix3 s r Q) * Scalar.select (mine (start (aC m) (ix2 s e)) (stop (aC m) (ix2 s e)) r) (aXS m (ix3 s r (⟨Q.val / 128, by omega⟩ : Fin 128))) 0)
    * (aW m (ix3 e Q N) * aWS m (ix3 e (⟨Q.val / 128, by omega⟩ : Fin 128) (⟨N.val / 128, by omega⟩ : Fin 44)))

open scoped Classical in
/-- What one point adds: nothing where the expert has no rows. -/
def part (s : Fin 10) (e : Fin 4) (k : Fin 8) (r : Fin 512) (N : Fin 5632) : EReal :=
  if has (aC m) s e then ∑ q : Fin 2048, cell m s e r N ⟨k.val * 2048 + q.val, by omega⟩ else 0

/-- The kernel's result. -/
def result : S10x512x5632.Idx → EReal := fun j => ∑ e : Fin 4, ∑ k : Fin 8, part m (j 0 : Fin 10) e k (j 1 : Fin 512) (j 2 : Fin 5632)

theorem step_part (hO : Ok m) (t : Fin (cfgM m hO).N) (acc : Vec Ideal S512x512 .f32) (r f : Fin 512) (N : Fin 5632)
    (hN : N.val = 512 * (cn (grid0.coords t)).val + f.val) (hl : has (aC m) (cs (grid0.coords t)) (ce (grid0.coords t))) :
    step (word2 0 (grid0.coords t) (tbl m 2)) (word3 0 (grid0.coords t) (tbl m 3)) (iblk m hO 0 0 t) (iblk m hO 0 1 t) (iblk m hO 0 2 t) (iblk m hO 0 3 t) acc (ix2 r f)
      = acc (ix2 r f) + part m (cs (grid0.coords t)) (ce (grid0.coords t)) (ck (grid0.coords t)) r N := by
  refine (step_at _ _ _ _ _ _ acc r f).trans ?_
  rw [part, if_pos hl]
  refine congrArg (acc (ix2 r f) + ·) (sum_congr rfl fun q _ => ?_)
  have hq := q.isLt
  have hk := (ck (grid0.coords t)).isLt
  have hQ : (ck (grid0.coords t)).val * 2048 + q.val < 16384 := by omega
  have w2 := word2_at m 0 (grid0.coords t)
  have w3 := word3_at m 0 (grid0.coords t)
  have b0 := blk0 m hO t hl r q ⟨(ck (grid0.coords t)).val * 2048 + q.val, hQ⟩ (by show _ * 2048 + _ = _; omega)
  have b1 := blk1 m hO t hl r (kb q) ⟨((ck (grid0.coords t)).val * 2048 + q.val) / 128, by omega⟩ (by show (_ * 2048 + q.val) / 128 = 16 * _ + q.val / 128; omega)
  have b2 := blk2 m hO t hl q f ⟨(ck (grid0.coords t)).val * 2048 + q.val, hQ⟩ (by show _ * 2048 + _ = _; omega) N hN
  have b3 := blk3 m hO t hl (kb q) (nb f) ⟨((ck (grid0.coords t)).val * 2048 + q.val) / 128, by omega⟩ (by show (_ * 2048 + q.val) / 128 = 16 * _ + q.val / 128; omega)
      ⟨N.val / 128, by omega⟩ (by show N.val / 128 = 4 * _ + f.val / 128; omega)
  exact congrArg₂ (· * ·) (congrArg₂ (· * ·) b0 (congr (congrArg₂ Scalar.select (congrArg₂ (mine · · r) w2 w3) b1) rfl)) (congrArg₂ (· * ·) b2 b3)

theorem pay1_at (r f : Fin 512) : (k0_pay1 (F := Ideal)) (ix2 r f) = (0 : EReal) := by
  pointwise [k0_pay1]
theorem pay2_at (acc : Vec Ideal S512x512 .f32) (r f : Fin 512) : (k0_pay2 (F := Ideal) acc) (ix3 (0 : Fin 1) r f) = (acc (ix2 r f) : EReal) := by
  pointwise [k0_pay2]

/-- The coordinates of the `n`-th point. -/
def ns (n : ℕ) : Fin 10 := ⟨n / 352 % 10, Nat.mod_lt _ (by decide)⟩
def nn (n : ℕ) : Fin 11 := ⟨n / 32 % 11, Nat.mod_lt _ (by decide)⟩
def ne (n : ℕ) : Fin 4 := ⟨n / 8 % 4, Nat.mod_lt _ (by decide)⟩
def nk (n : ℕ) : Fin 8 := ⟨n / 1 % 8, Nat.mod_lt _ (by decide)⟩
theorem cs_eq (t : Fin grid0.N) : cs (grid0.coords t) = ns t.val := Fin.ext (Pipeline.Grid.coords_val t 0 (by decide) rfl)
theorem cn_eq (t : Fin grid0.N) : cn (grid0.coords t) = nn t.val := Fin.ext (Pipeline.Grid.coords_val t 1 (by decide) rfl)
theorem ce_eq (t : Fin grid0.N) : ce (grid0.coords t) = ne t.val := Fin.ext (Pipeline.Grid.coords_val t 2 (by decide) rfl)
theorem ck_eq (t : Fin grid0.N) : ck (grid0.coords t) = nk t.val := Fin.ext (Pipeline.Grid.coords_val t 3 (by decide) rfl)

/-- The column of the result that a column of a point's block is. -/
def col (n : ℕ) (f : Fin 512) : Fin 5632 := ⟨512 * (nn n).val + f.val, by have := (nn n).isLt; omega⟩

/-- What the `n`-th point adds. -/
def term (r f : Fin 512) (n : ℕ) : EReal := part m (ns n) (ne n) (nk n) r (col n f)

theorem part_term (t : Fin grid0.N) (r f : Fin 512) :
    part m (cs (grid0.coords t)) (ce (grid0.coords t)) (ck (grid0.coords t)) r (col t.val f) = term m r f t.val := by
  rw [cs_eq, ce_eq, ck_eq]; rfl
theorem col_val (t : Fin grid0.N) (f : Fin 512) : (col t.val f).val = 512 * (cn (grid0.coords t)).val + f.val := by
  rw [cn_eq]; rfl
theorem term_dead (t : Fin grid0.N) (r f : Fin 512) (h : ¬has (aC m) (cs (grid0.coords t)) (ce (grid0.coords t))) : term m r f t.val = 0 := by
  rw [← part_term, part, if_neg h]

/-! ## What each kind of point leaves -/

set_option maxHeartbeats 1500000 in
theorem scr_A (hO : Ok m) (t : Fin (cfgM m hO).N) (h0 : t.val % 32 = 0) (h2 : ¬t.val % 32 = 31) (hl : has (aC m) (cs (grid0.coords t)) (ce (grid0.coords t))) :
    (outsAt0 m hO 0 t.val t.isLt).2 = step (word2 0 (grid0.coords t) (tbl m 2)) (word3 0 (grid0.coords t) (tbl m 3)) (iblk m hO 0 0 t) (iblk m hO 0 1 t) (iblk m hO 0 2 t) (iblk m hO 0 3 t) (k0_pay1 (F := Ideal)) :=
  (congrArg Prod.snd (outsAt0_A m hO 0 t h0 ((cond_iff m (grid0.coords t)).2 hl) h2)).trans
    (sout_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO 0 0 t) (iblk m hO 0 1 t) (iblk m hO 0 2 t) (iblk m hO 0 3 t) (tbl m 0) (tbl m 1) (tbl m 2) (tbl m 3) ((cond_iff m (grid0.coords t)).2 hl))
set_option maxHeartbeats 1500000 in
theorem scr_B (hO : Ok m) (t : Fin (cfgM m hO).N) (h0 : t.val % 32 = 0) (h2 : ¬t.val % 32 = 31) (hl : ¬has (aC m) (cs (grid0.coords t)) (ce (grid0.coords t))) :
    (outsAt0 m hO 0 t.val t.isLt).2 = k0_pay1 (F := Ideal) :=
  (congrArg Prod.snd (outsAt0_B m hO 0 t h0 (fun h => hl ((cond_iff m (grid0.coords t)).1 h)) h2)).trans
    (sout_B 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO 0 0 t) (iblk m hO 0 1 t) (iblk m hO 0 2 t) (iblk m hO 0 3 t) (tbl m 0) (tbl m 1) (tbl m 2) (tbl m 3) (fun h => hl ((cond_iff m (grid0.coords t)).1 h)))
set_option maxHeartbeats 1500000 in
theorem scr_C (hO : Ok m) (t : Fin (cfgM m hO).N) (h0 : ¬t.val % 32 = 0) (h2 : ¬t.val % 32 = 31) (hl : has (aC m) (cs (grid0.coords t)) (ce (grid0.coords t))) :
    (outsAt0 m hO 0 t.val t.isLt).2 = step (word2 0 (grid0.coords t) (tbl m 2)) (word3 0 (grid0.coords t) (tbl m 3)) (iblk m hO 0 0 t) (iblk m hO 0 1 t) (iblk m hO 0 2 t) (iblk m hO 0 3 t) (outsAt0 m hO 0 (t.val - 1) (Nat.lt_of_le_of_lt (Nat.sub_le _ _) t.isLt)).2 :=
  (congrArg Prod.snd (outsAt0_C m hO 0 t h0 ((cond_iff m (grid0.coords t)).2 hl) h2)).trans
    (sout_C 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO 0 0 t) (iblk m hO 0 1 t) (iblk m hO 0 2 t) (iblk m hO 0 3 t) (tbl m 0) (tbl m 1) (tbl m 2) (tbl m 3) (outsAt0 m hO 0 (t.val - 1) (Nat.lt_of_le_of_lt (Nat.sub_le _ _) t.isLt)).2 ((cond_iff m (grid0.coords t)).2 hl))
set_option maxHeartbeats 1500000 in
theorem scr_D (hO : Ok m) (t : Fin (cfgM m hO).N) (h0 : ¬t.val % 32 = 0) (h2 : ¬t.val % 32 = 31) (hl : ¬has (aC m) (cs (grid0.coords t)) (ce (grid0.coords t))) :
    (outsAt0 m hO 0 t.val t.isLt).2 = (outsAt0 m hO 0 (t.val - 1) (Nat.lt_of_le_of_lt (Nat.sub_le _ _) t.isLt)).2 :=
  Eq.trans (congrArg Prod.snd (outsAt0_D m hO 0 t h0 (fun h => hl ((cond_iff m (grid0.coords t)).1 h)) h2)) rfl
set_option maxHeartbeats 1500000 in
theorem scr_E (hO : Ok m) (t : Fin (cfgM m hO).N) (h0 : ¬t.val % 32 = 0) (h2 : t.val % 32 = 31) (hl : has (aC m) (cs (grid0.coords t)) (ce (grid0.coords t))) :
    (outsAt0 m hO 0 t.val t.isLt).2 = step (word2 0 (grid0.coords t) (tbl m 2)) (word3 0 (grid0.coords t) (tbl m 3)) (iblk m hO 0 0 t) (iblk m hO 0 1 t) (iblk m hO 0 2 t) (iblk m hO 0 3 t) (outsAt0 m hO 0 (t.val - 1) (Nat.lt_of_le_of_lt (Nat.sub_le _ _) t.isLt)).2 :=
  (congrArg Prod.snd (outsAt0_E m hO 0 t h0 ((cond_iff m (grid0.coords t)).2 hl) h2)).trans
    (sout_E 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO 0 0 t) (iblk m hO 0 1 t) (iblk m hO 0 2 t) (iblk m hO 0 3 t) (tbl m 0) (tbl m 1) (tbl m 2) (tbl m 3) (outsAt0 m hO 0 (t.val - 1) (Nat.lt_of_le_of_lt (Nat.sub_le _ _) t.isLt)).2 ((cond_iff m (grid0.coords t)).2 hl))
set_option maxHeartbeats 1500000 in
theorem scr_F (hO : Ok m) (t : Fin (cfgM m hO).N) (h0 : ¬t.val % 32 = 0) (h2 : t.val % 32 = 31) (hl : ¬has (aC m) (cs (grid0.coords t)) (ce (grid0.coords t))) :
    (outsAt0 m hO 0 t.val t.isLt).2 = (outsAt0 m hO 0 (t.val - 1) (Nat.lt_of_le_of_lt (Nat.sub_le _ _) t.isLt)).2 :=
  Eq.trans (congrArg Prod.snd (outsAt0_F m hO 0 t h0 (fun h => hl ((cond_iff m (grid0.coords t)).1 h)) h2)) rfl
set_option maxHeartbeats 1500000 in
theorem blk_E (hO : Ok m) (t : Fin (cfgM m hO).N) (h0 : ¬t.val % 32 = 0) (h2 : t.val % 32 = 31) (hl : has (aC m) (cs (grid0.coords t)) (ce (grid0.coords t))) :
    (outsAt0 m hO 0 t.val t.isLt).1 = k0_pay2 (F := Ideal) (step (word2 0 (grid0.coords t) (tbl m 2)) (word3 0 (grid0.coords t) (tbl m 3)) (iblk m hO 0 0 t) (iblk m hO 0 1 t) (iblk m hO 0 2 t) (iblk m hO 0 3 t) (outsAt0 m hO 0 (t.val - 1) (Nat.lt_of_le_of_lt (Nat.sub_le _ _) t.isLt)).2) :=
  (congrArg Prod.fst (outsAt0_E m hO 0 t h0 ((cond_iff m (grid0.coords t)).2 hl) h2)).trans
    (out_E 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO 0 0 t) (iblk m hO 0 1 t) (iblk m hO 0 2 t) (iblk m hO 0 3 t) (tbl m 0) (tbl m 1) (tbl m 2) (tbl m 3) (outsAt0 m hO 0 (t.val - 1) (Nat.lt_of_le_of_lt (Nat.sub_le _ _) t.isLt)).2 ((cond_iff m (grid0.coords t)).2 hl))
set_option maxHeartbeats 1500000 in
theorem blk_F (hO : Ok m) (t : Fin (cfgM m hO).N) (h0 : ¬t.val % 32 = 0) (h2 : t.val % 32 = 31) (hl : ¬has (aC m) (cs (grid0.coords t)) (ce (grid0.coords t))) :
    (outsAt0 m hO 0 t.val t.isLt).1 = k0_pay2 (F := Ideal) (outsAt0 m hO 0 (t.val - 1) (Nat.lt_of_le_of_lt (Nat.sub_le _ _) t.isLt)).2 :=
  (congrArg Prod.fst (outsAt0_F m hO 0 t h0 (fun h => hl ((cond_iff m (grid0.coords t)).1 h)) h2)).trans
    (out_F 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO 0 0 t) (iblk m hO 0 1 t) (iblk m hO 0 2 t) (iblk m hO 0 3 t) (tbl m 0) (tbl m 1) (tbl m 2) (tbl m 3) (outsAt0 m hO 0 (t.val - 1) (Nat.lt_of_le_of_lt (Nat.sub_le _ _) t.isLt)).2 (fun h => hl ((cond_iff m (grid0.coords t)).1 h)))

theorem acc_reset (hO : Ok m) (r f : Fin 512) (t : Fin (cfgM m hO).N) (h0 : t.val % 32 = 0) :
    ((outsAt0 m hO 0 t.val t.isLt).2 (ix2 r f) : EReal) = 0 + term m r f t.val := by
  have h2 : ¬t.val % 32 = 31 := by omega
  by_cases hl : has (aC m) (cs (grid0.coords t)) (ce (grid0.coords t))
  · exact (congrFun (scr_A m hO t h0 h2 hl) (ix2 r f)).trans ((step_part m hO t _ r f (col t.val f) (col_val t f) hl).trans (congrArg₂ (· + ·) (pay1_at r f) (part_term m t r f)))
  · rw [term_dead m t r f hl]
    exact (congrFun (scr_B m hO t h0 h2 hl) (ix2 r f)).trans ((pay1_at r f).trans (add_zero _).symm)

theorem acc_step (hO : Ok m) (r f : Fin 512) (t : Fin (cfgM m hO).N) (h0 : ¬t.val % 32 = 0) :
    ((outsAt0 m hO 0 t.val t.isLt).2 (ix2 r f) : EReal)
      = (outsAt0 m hO 0 (t.val - 1) (Nat.lt_of_le_of_lt (Nat.sub_le _ _) t.isLt)).2 (ix2 r f) + term m r f t.val := by
  by_cases hl : has (aC m) (cs (grid0.coords t)) (ce (grid0.coords t)) <;> by_cases h2 : t.val % 32 = 31
  · exact (congrFun (scr_E m hO t h0 h2 hl) (ix2 r f)).trans ((step_part m hO t _ r f (col t.val f) (col_val t f) hl).trans (congrArg _ (part_term m t r f)))
  · exact (congrFun (scr_C m hO t h0 h2 hl) (ix2 r f)).trans ((step_part m hO t _ r f (col t.val f) (col_val t f) hl).trans (congrArg _ (part_term m t r f)))
  · rw [term_dead m t r f hl]
    exact (congrFun (scr_F m hO t h0 h2 hl) (ix2 r f)).trans (add_zero _).symm
  · rw [term_dead m t r f hl]
    exact (congrFun (scr_D m hO t h0 h2 hl) (ix2 r f)).trans (add_zero _).symm

/-- The block written back is the accumulator. -/
theorem out_acc (hO : Ok m) (r f : Fin 512) (t : Fin (cfgM m hO).N) (h2 : t.val % 32 = 31) :
    ((outsAt0 m hO 0 t.val t.isLt).1 (ix3 (0 : Fin 1) r f) : EReal) = (outsAt0 m hO 0 t.val t.isLt).2 (ix2 r f) := by
  have h0 : ¬t.val % 32 = 0 := by omega
  by_cases hl : has (aC m) (cs (grid0.coords t)) (ce (grid0.coords t))
  · exact (congrFun (blk_E m hO t h0 h2 hl) (ix3 (0 : Fin 1) r f)).trans ((pay2_at _ r f).trans (congrFun (scr_E m hO t h0 h2 hl) (ix2 r f)).symm)
  · exact (congrFun (blk_F m hO t h0 h2 hl) (ix3 (0 : Fin 1) r f)).trans ((pay2_at _ r f).trans (congrFun (scr_F m hO t h0 h2 hl) (ix2 r f)).symm)

theorem out_sum (hO : Ok m) (r f : Fin 512) (t : Fin (cfgM m hO).N) (h2 : t.val % 32 = 31) :
    ((outsAt0 m hO 0 t.val t.isLt).1 (ix3 (0 : Fin 1) r f) : EReal)
      = ∑ e : Fin 4, ∑ k : Fin 8, part m (ns t.val) e k r (col t.val f) := by
  rw [out_acc m hO r f t h2]
  refine (Pipeline.eq_sum_of_reset_step_of_mod (fun n h => ((outsAt0 m hO 0 n h).2 (ix2 r f) : EReal)) 32 0 (term m r f)
    (acc_reset m hO r f) (acc_step m hO r f) t h2).trans ?_
  rw [zero_add]
  refine (Finset.sum_range_mul_split 4 8 (fun k => term m r f (32 * (t.val / 32) + k))).trans ?_
  rw [Finset.sum_range]
  refine sum_congr rfl fun e _ => ?_
  rw [Finset.sum_range]
  refine sum_congr rfl fun k _ => ?_
  have he := e.isLt
  have hk := k.isLt
  have e1 : ns (32 * (t.val / 32) + (e.val * 8 + k.val)) = ns t.val := Fin.ext (by show _ / 352 % 10 = t.val / 352 % 10; omega)
  have e2 : ne (32 * (t.val / 32) + (e.val * 8 + k.val)) = e := Fin.ext (by show _ / 8 % 4 = e.val; omega)
  have e3 : nk (32 * (t.val / 32) + (e.val * 8 + k.val)) = k := Fin.ext (by show _ / 1 % 8 = k.val; omega)
  have e4 : nn (32 * (t.val / 32) + (e.val * 8 + k.val)) = nn t.val := Fin.ext (by show _ / 32 % 11 = t.val / 32 % 11; omega)
  have e5 : col (32 * (t.val / 32) + (e.val * 8 + k.val)) f = col t.val f := Fin.ext (by show 512 * (nn _).val + _ = 512 * (nn _).val + _; rw [e4])
  show part m _ _ _ r _ = _
  rw [e1, e2, e3, e5]

theorem ix4_at (i : grid0.Coords) : cc0_transform_4 i = ![(cs i).val, 0, (cn i).val] := by
  have h0 : (cs i).val < 10 := (cs i).isLt
  have h1 : (cn i).val < 11 := (cn i).isLt
  have e0 : (BitVec.ofNat 32 (cs i).val).toNat = (cs i).val := by simp; omega
  have e1 : (BitVec.ofNat 32 (cn i).val).toNat = (cn i).val := by simp; omega
  exact congrArg₂ (fun a b : ℕ => ![a, 0, b]) e0 e1

theorem emb4_eq (hO : Ok m) (t : Fin (cfgM m hO).N) (r f : Fin 512) :
    (((cfgM m hO).win 4).blk t).view.emb (ix3 (0 : Fin 1) r f) = (ix3 (ns t.val) r (col t.val f) : S10x512x5632.Idx) := by
  funext a
  apply Fin.ext
  refine (emb4 m hO t (ix3 (0 : Fin 1) r f) a).trans ?_
  rw [ix4_at, cs_eq, cn_eq]
  match a with
  | ⟨0, _⟩ => exact Nat.mul_one _
  | ⟨1, _⟩ => exact (congrArg (· + r.val) (Nat.zero_mul 512)).trans (Nat.zero_add _)
  | ⟨2, _⟩ => exact congrArg (· + f.val) (Nat.mul_comm _ _)

end Cert.KernelIdeal.Blocks

end
-- ==== Proof.KernelValue.lean ====
/- What the kernel leaves in its result array, and its run from any memory. -/
module

public import proofs.«01_k».proof.Proof.Acc

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Tables Cert.KernelIdeal.Payload
open Finset (range sum_congr)

variable (m : (ℓ : Loc nD τ sig) → Buf (Elt Ideal) ℓ)

/-- The array the pipeline leaves. -/
theorem final (hO : Ok m) : (dats m hO 0 0).arrAt 4 (cfgM m hO).N = result m := by
  refine (dats m hO 0 0).arrAt_eq_of_emb 4 (result m) (fun t hf y => ?_) (fun i => ?_)
  · have h2 : t.val % 32 = 31 := (flush0_4 (adm m hO) t).1 hf
    obtain ⟨a, r, f, rfl⟩ : ∃ (a : Fin 1) (r f : Fin 512), (y : S1x512x512.Idx) = ix3 a r f := ⟨_, _, _, eq_ix3 _⟩
    obtain rfl : a = 0 := Subsingleton.elim _ _
    refine Eq.trans ?_ ((out_sum m hO r f t h2).trans (congrArg (result m) (emb4_eq m hO t r f)).symm)
    rw [after0_4]
    rfl
  · obtain ⟨s, r, N, rfl⟩ : ∃ (s : Fin 10) (r : Fin 512) (N : Fin 5632), (i : S10x512x5632.Idx) = ix3 s r N := ⟨_, _, _, eq_ix3 _⟩
    have hs := s.isLt
    have hN := N.isLt
    have ht : 352 * s.val + 32 * (N.val / 512) + 31 < (cfgM m hO).N := by
      show _ < grid0.N
      rw [N_0]; omega
    refine ⟨⟨352 * s.val + 32 * (N.val / 512) + 31, ht⟩, (flush0_4 (adm m hO) _).2 (by show (352 * s.val + 32 * (N.val / 512) + 31) % 32 = 31; omega), ?_⟩
    have e := emb4_eq m hO ⟨352 * s.val + 32 * (N.val / 512) + 31, ht⟩ r ⟨N.val % 512, Nat.mod_lt _ (by decide)⟩
    have e' : (ix3 (ns (352 * s.val + 32 * (N.val / 512) + 31)) r (col (352 * s.val + 32 * (N.val / 512) + 31) ⟨N.val % 512, Nat.mod_lt _ (by decide)⟩) : S10x512x5632.Idx) = ix3 s r N := by
      have e1 : ns (352 * s.val + 32 * (N.val / 512) + 31) = s := Fin.ext (by show _ / 352 % 10 = s.val; omega)
      have e2 : col (352 * s.val + 32 * (N.val / 512) + 31) ⟨N.val % 512, Nat.mod_lt _ (by decide)⟩ = N := Fin.ext (by show 512 * (_ / 32 % 11) + N.val % 512 = N.val; omega)
      rw [e1, e2]
    exact (e.trans e') ▸ View.emb_mem_set _ _

end Cert.KernelIdeal.Blocks

end
-- ==== Proof.Route.lean ====
/- The reference's host operations as functions of the counts, the scales and the widened arrays; and what @main's line of
   host operations leaves in the result, as those functions. -/
module

public import proofs.«01_k».proof.Proof.Gen.ReferenceIdeal.Frame
public import Idealize.ShloMosaic.Lib.Pipeline.ValueKit
public import Idealize.ShloMosaic.Lib.StableHlo.RunRead

@[expose] public section

set_option maxRecDepth 16384

noncomputable section

namespace Cert.ReferenceIdeal.Route

open Idealize.ShloMosaic Idealize.ShloMosaic.TcCoe Idealize.SL.Sem
open Cert.ReferenceIdeal Cert.ReferenceIdeal.Gen

/-! ## The routing over the counts -/

/-- Zero. -/
def nil : IVec S_ 32 := constantI S_ 32 0#32
/-- Zero, as the running sums start. -/
def nil' : IVec S_ 32 := broadcastInDim S_ ![] bcast_S_S_ nil
/-- One number at every position of the expert-ordered rows. -/
def allP (k : BitVec 32) : IVec S5120 32 := broadcastInDim S5120 ![] bcast_S_S5120 (constantI S_ 32 k)
/-- One number at every row. -/
def allR (k : BitVec 32) : IVec S10x512 32 := broadcastInDim S10x512 ![] bcast_S_S10x512 (constantI S_ 32 k)
/-- One number at every source. -/
def allS (k : BitVec 32) : IVec S10x1 32 := broadcastInDim S10x1 ![] bcast_S_S10x1 (constantI S_ 32 k)

/-- The rows of each expert. -/
def tot (C : IVec S10x4 32) : IVec S4 32 := Host.reduce IntOp.addi C nil reducesTo_S10x4_S4_d0 h_S_
/-- Where each expert's rows begin in the expert order. -/
def gbeg (C : IVec S10x4 32) : IVec S4 32 :=
  subi (Host.reduceWindow IntOp.addi ![4] ![1] ![3] ![0] (tot C) nil' reduceWindows_S4_S4_w4s1p3_0 h_S_) (tot C)
/-- Where they end. -/
def gend (C : IVec S10x4 32) : IVec S4 32 := addi (gbeg C) (tot C)
/-- Where each source's rows begin within each expert's. -/
def qbeg (C : IVec S10x4 32) : IVec S10x4 32 :=
  subi (Host.reduceWindow IntOp.addi ![10, 1] ![1, 1] ![9, 0] ![0, 0] C nil' reduceWindows_S10x4_S10x4_w10s1p9_0_w1s1p0_0 h_S_) C
/-- Where they end. -/
def qend (C : IVec S10x4 32) : IVec S10x4 32 := addi (qbeg C) C
/-- Where each expert's rows begin within each source's. -/
def rbeg (C : IVec S10x4 32) : IVec S10x4 32 :=
  subi (Host.reduceWindow IntOp.addi ![1, 4] ![1, 1] ![0, 3] ![0, 0] C nil' reduceWindows_S10x4_S10x4_w1s1p0_0_w4s1p3_0 h_S_) C
/-- Where they end. -/
def rend (C : IVec S10x4 32) : IVec S10x4 32 := addi (rbeg C) C
/-- The rows of each source. -/
def rows (C : IVec S10x4 32) : IVec S10 32 := Host.reduce IntOp.addi C nil reducesTo_S10x4_S10_d1 h_S_
/-- The positions of the expert order. -/
def pos : IVec S5120 32 := iotaInDim S5120 32 0

/-- A position's index, one length more where it is negative. -/
def wrapP (k : BitVec 32) (x : IVec S5120 32) : IVec S5120 32 := select (cmpi .slt x (allP 0#32)) (addi x (allP k)) x
/-- A row's index, one length more where it is negative. -/
def wrapR (k : BitVec 32) (x : IVec S10x512 32) : IVec S10x512 32 := select (cmpi .slt x (allR 0#32)) (addi x (allR k)) x
/-- A source's index, one length more where it is negative. -/
def wrapS (k : BitVec 32) (x : IVec S10x1 32) : IVec S10x1 32 := select (cmpi .slt x (allS 0#32)) (addi x (allS k)) x
/-- A list of indices as a column. -/
def colP {w : ℕ} (x : IVec S5120 w) : IVec S5120x1 w := broadcastInDim S5120x1 ![0] bcast_S5120_S5120x1_0 x
/-- A table of indices with an axis more. -/
def colR (x : IVec S10x512 32) : IVec S10x512x1 32 := broadcastInDim S10x512x1 ![0, 1] bcast_S10x512_S10x512x1_0_1 x
/-- Two columns side by side. -/
def besideP (a b : IVec S5120x1 32) : IVec S5120x2 32 :=
  concatenate S5120x2 1 [⟨S5120x1, a⟩, ⟨S5120x1, b⟩] concatenates_S5120x1_S5120x1_S5120x2_d1
/-- Two tables side by side on their last axis. -/
def besideR (a b : IVec S10x512x1 32) : IVec S10x512x2 32 :=
  concatenate S10x512x2 2 [⟨S10x512x1, a⟩, ⟨S10x512x1, b⟩] concatenates_S10x512x1_S10x512x1_S10x512x2_d2
/-- Pairs of indices, one for each position. -/
def pairP (a b : IVec S5120 32) : IVec S5120x2 32 := besideP (colP a) (colP b)
/-- Pairs of indices, one for each row. -/
def pairR (a b : IVec S10x512 32) : IVec S10x512x2 32 := besideR (colR a) (colR b)

/-- Which experts end at or before a position. -/
def beforeP (C : IVec S10x4 32) : IVec S5120x4 1 :=
  cmpi .sle (broadcastInDim S5120x4 ![0, 1] bcast_S1x4_S5120x4_0_1 (broadcastInDim S1x4 ![1] bcast_S4_S1x4_1 (gend C)))
    (broadcastInDim S5120x4 ![0, 1] bcast_S5120x1_S5120x4_0_1 (colP pos))
/-- The expert of a position. -/
def pe (C : IVec S10x4 32) : IVec S5120 32 :=
  minsi (Host.reduce IntOp.addi (extui 32 (beforeP C) natLt_1_32) nil reducesTo_S5120x4_S5120_d1 h_S_) (allP 3#32)
/-- A position within its expert's rows. -/
def po (C : IVec S10x4 32) : IVec S5120 32 :=
  subi pos (Host.gather gather_S4_S5120x1_S5120_n_0_n_n_0_1_1 (gbeg C) (colP (wrapP 4#32 (pe C))))
/-- Which sources end at or before a position within its expert's rows. -/
def beforeQ (C : IVec S10x4 32) : IVec S5120x10 1 :=
  cmpi .sle (transpose S5120x10 [1, 0] (Host.gather gather_S10x4_S5120x1_S10x5120_0_1_n_n_1_1_101 (qend C) (colP (wrapP 4#32 (pe C)))) transposes_S10x5120_S5120x10_1_0)
    (broadcastInDim S5120x10 ![0, 1] bcast_S5120x1_S5120x10_0_1 (colP (po C)))
/-- The source of a position. -/
def ps (C : IVec S10x4 32) : IVec S5120 32 :=
  minsi (Host.reduce IntOp.addi (extui 32 (beforeQ C) natLt_1_32) nil reducesTo_S5120x10_S5120_d1 h_S_) (allP 9#32)
/-- A table over sources and experts, read at a position's own. -/
def atP (C T : IVec S10x4 32) : IVec S5120 32 :=
  Host.gather gather_S10x4_S5120x2_S5120_n_01_n_n_01_1_11 T (pairP (wrapP 10#32 (ps C)) (wrapP 4#32 (pe C)))
/-- The row a position holds, before it is kept within the rows. -/
def psrc0 (C : IVec S10x4 32) : IVec S5120 32 :=
  addi (addi (muli (ps C) (allP 512#32)) (atP C (rbeg C))) (subi (po C) (atP C (qbeg C)))
/-- The row a position holds. -/
def psrc (C : IVec S10x4 32) : IVec S5120 32 := minsi (allP 5119#32) (maxsi (allP 0#32) (psrc0 C))

/-- Which positions hold rows of one expert. -/
def mask (C : IVec S10x4 32) (k : ℕ) (h : S4.Slices ![k] S1) : IVec S5120 1 :=
  andi (cmpi .sle (broadcastInDim S5120 ![] bcast_S_S5120 (shapeCast S_ (extractStridedSlice S1 ![k] (gbeg C) h) shapeCasts_S1_S_)) pos)
    (cmpi .slt pos (broadcastInDim S5120 ![] bcast_S_S5120 (shapeCast S_ (extractStridedSlice S1 ![k] (gend C) h) shapeCasts_S1_S_)))

/-- The rows of a source. -/
def row : IVec S512 32 := iotaInDim S512 32 0
/-- Which experts end at or before a row. -/
def beforeR (C : IVec S10x4 32) : IVec S10x512x4 1 :=
  cmpi .sle (broadcastInDim S10x512x4 ![0, 1, 2] bcast_S10x1x4_S10x512x4_0_1_2 (broadcastInDim S10x1x4 ![0, 2] bcast_S10x4_S10x1x4_0_2 (rend C)))
    (broadcastInDim S10x512x4 ![0, 1, 2] bcast_S1x512x1_S10x512x4_0_1_2 (broadcastInDim S1x512x1 ![1] bcast_S512_S1x512x1_1 row))
/-- The expert of a row. -/
def re (C : IVec S10x4 32) : IVec S10x512 32 :=
  minsi (Host.reduce IntOp.addi (extui 32 (beforeR C) natLt_1_32) nil reducesTo_S10x512x4_S10x512_d2 h_S_) (allR 3#32)
/-- A row's number at every source. -/
def rowR : IVec S10x512 32 := broadcastInDim S10x512 ![0, 1] bcast_S1x512_S10x512_0_1 (broadcastInDim S1x512 ![1] bcast_S512_S1x512_1 row)
/-- Which rows an expert holds. -/
def valid (C : IVec S10x4 32) : IVec S10x512 1 :=
  cmpi .slt rowR (broadcastInDim S10x512 ![0, 1] bcast_S10x1_S10x512_0_1 (broadcastInDim S10x1 ![0] bcast_S10_S10x1_0 (rows C)))
/-- A row's source. -/
def rs : IVec S10x512 32 :=
  broadcastInDim S10x512 ![0, 1] bcast_S10x1_S10x512_0_1 (wrapS 10#32 (broadcastInDim S10x1 ![0] bcast_S10_S10x1_0 (iotaInDim S10 32 0)))
/-- A table over sources and experts, read at a row's own. -/
def atR (C T : IVec S10x4 32) : IVec S10x512 32 :=
  Host.gather gather_S10x4_S10x512x2_S10x512_n_01_n_n_01_2_11 T (pairR rs (wrapR 4#32 (re C)))
/-- The position of a row, before it is kept within the positions. -/
def dest0 (C : IVec S10x4 32) : IVec S10x512 32 :=
  addi (addi (Host.gather gather_S4_S10x512x1_S10x512_n_0_n_n_0_2_1 (gbeg C) (colR (wrapR 4#32 (re C)))) (atR C (qbeg C))) (subi rowR (atR C (rbeg C)))
/-- The position of a row. -/
def dest (C : IVec S10x4 32) : IVec S10x512 32 := minsi (dest0 C) (allR 5119#32)

/-! ## The arrays -/

section
variable {F : FTy → Type} [FloatOps F]

/-- The rows times their scales. -/
def xd (X : FVec F S10x512x16384 .bf16) (XS : FVec F S10x512x128 .f32) : FVec F S5120x16384 .bf16 :=
  shapeCast S5120x16384
    (mulf (shapeCast S5120x128x128 X shapeCasts_S10x512x16384_S5120x128x128)
      (broadcastInDim S5120x128x128 ![0, 1, 2] bcast_S5120x128x1_S5120x128x128_0_1_2
        (truncf .bf16 (shapeCast S5120x128x1 XS shapeCasts_S10x512x128_S5120x128x1) bitsLt_bf16_f32)))
    shapeCasts_S5120x128x128_S5120x16384
/-- The weights times their scales. -/
def wd (W : FVec F S4x16384x5632 .bf16) (WS : FVec F S4x128x44 .f32) : FVec F S4x16384x5632 .bf16 :=
  shapeCast S4x16384x5632
    (mulf (shapeCast S4x128x128x44x128 W shapeCasts_S4x16384x5632_S4x128x128x44x128)
      (broadcastInDim S4x128x128x44x128 ![0, 1, 2, 3, 4] bcast_S4x128x1x44x1_S4x128x128x44x128_0_1_2_3_4
        (broadcastInDim S4x128x1x44x1 ![0, 1, 3] bcast_S4x128x44_S4x128x1x44x1_0_1_3 (truncf .bf16 WS bitsLt_bf16_f32))))
    shapeCasts_S4x128x128x44x128_S4x16384x5632
/-- The rows in expert order. -/
def xs (D : FVec F S5120x16384 .bf16) (C : IVec S10x4 32) : FVec F S5120x16384 .bf16 :=
  Host.gather gather_S5120x16384_S5120x1_S5120x16384_1_0_n_n_0_1_116384 D (colP (wrapP 5120#32 (psrc C)))
/-- One expert's rows, zero elsewhere. -/
def own (Y : FVec F S5120x16384 .bf16) (C : IVec S10x4 32) (k : ℕ) (h : S4.Slices ![k] S1) : FVec F S5120x16384 .bf16 :=
  select (broadcastInDim S5120x16384 ![0, 1] bcast_S5120x1_S5120x16384_0_1 (colP (mask C k h))) Y
    (broadcastInDim S5120x16384 ![] bcast_S_S5120x16384 (sitofp .bf16 nil))
/-- One expert's rows times its weights. -/
def part (Y : FVec F S5120x16384 .bf16) (E : FVec F S4x16384x5632 .bf16) (C : IVec S10x4 32) (k : ℕ) (h : S4.Slices ![k] S1)
    (h' : S4x16384x5632.Slices ![k, 0, 0] S1x16384x5632) : FVec F S5120x5632 .f32 :=
  Host.dotGeneral dot_S5120x16384_S16384x5632_S5120x5632_1_0_0_1_n_n none (own Y C k h)
    (shapeCast S16384x5632 (extractStridedSlice S1x16384x5632 ![k, 0, 0] E h') shapeCasts_S1x16384x5632_S16384x5632)
/-- The products in expert order. -/
def prods (Y : FVec F S5120x16384 .bf16) (E : FVec F S4x16384x5632 .bf16) (C : IVec S10x4 32) : FVec F S5120x5632 .f32 :=
  addf (addf (addf (addf (broadcastInDim S5120x5632 ![] bcast_S_S5120x5632 (constant S_ .f32 0x00000000#32))
    (part Y E C 0 slices_S4_S1_0 slices_S4x16384x5632_S1x16384x5632_0_0_0))
    (part Y E C 1 slices_S4_S1_1 slices_S4x16384x5632_S1x16384x5632_1_0_0))
    (part Y E C 2 slices_S4_S1_2 slices_S4x16384x5632_S1x16384x5632_2_0_0))
    (part Y E C 3 slices_S4_S1_3 slices_S4x16384x5632_S1x16384x5632_3_0_0)
/-- Each row's product, zero where no expert holds the row. -/
def back (O : FVec F S5120x5632 .f32) (C : IVec S10x4 32) : FVec F S5120x5632 .f32 :=
  select (broadcastInDim S5120x5632 ![0, 1] bcast_S5120x1_S5120x5632_0_1 (shapeCast S5120x1 (valid C) shapeCasts_S10x512_S5120x1))
    (Host.gather gather_S5120x5632_S5120x1_S5120x5632_1_0_n_n_0_1_15632 O (colP (wrapP 5120#32 (shapeCast S5120 (dest C) shapeCasts_S10x512_S5120))))
    (broadcastInDim S5120x5632 ![] bcast_S_S5120x5632 (constant S_ .f32 0x00000000#32))
/-- The result. -/
def out (X : FVec F S10x512x16384 .bf16) (XS : FVec F S10x512x128 .f32) (W : FVec F S4x16384x5632 .bf16) (WS : FVec F S4x128x44 .f32)
    (C : IVec S10x4 32) : FVec F S10x512x5632 .bf16 :=
  truncf .bf16 (shapeCast S10x512x5632 (back (prods (xs (xd X XS) C) (wd W WS) C) C) shapeCasts_S5120x5632_S10x512x5632) bitsLt_bf16_f32

/-! ## What the line of host operations leaves -/

theorem besideP_eq : ((fun a b => concatenate S5120x2 1 [⟨S5120x1, a⟩, ⟨S5120x1, b⟩] concatenates_S5120x1_S5120x1_S5120x2_d1) : (⟨S5120x1, .i32⟩ : BufTy).Contents (Elt F) → (⟨S5120x1, .i32⟩ : BufTy).Contents (Elt F) → (⟨S5120x2, .i32⟩ : BufTy).Contents (Elt F)) = besideP := rfl
theorem besideR_eq : ((fun a b => concatenate S10x512x2 2 [⟨S10x512x1, a⟩, ⟨S10x512x1, b⟩] concatenates_S10x512x1_S10x512x1_S10x512x2_d2) : (⟨S10x512x1, .i32⟩ : BufTy).Contents (Elt F) → (⟨S10x512x1, .i32⟩ : BufTy).Contents (Elt F) → (⟨S10x512x2, .i32⟩ : BufTy).Contents (Elt F)) = besideR := rfl

variable (W : Valuation τ sig (Elt F))

/-- The counts as a valuation holds them. -/
abbrev cnt : IVec S10x4 32 := W (Proc.devRef .tc main_arg4)

/-- The first stretch: the scaled arrays and the running sums. -/
abbrev opsA : List (HloOp τ sig (Elt F)) := hostOps1 ++ (hostOps1_1 ++ (hostOps1_2 ++ (hostOps1_3 ++ (hostOps1_4 ++ hostOps1_5))))
/-- The second: the expert and the source of each position. -/
abbrev opsB : List (HloOp τ sig (Elt F)) := hostOps1_6.take 45
/-- Then its row. -/
abbrev opsB' : List (HloOp τ sig (Elt F)) := hostOps1_6.drop 45 ++ hostOps1_7
/-- The third: the rows in expert order. -/
abbrev opsC : List (HloOp τ sig (Elt F)) := hostOps1_8
/-- The fourth: their products. -/
abbrev opsD : List (HloOp τ sig (Elt F)) := hostOps1_9 ++ (hostOps1_10 ++ (hostOps1_11 ++ (hostOps1_12 ++ (hostOps1_13 ++ (hostOps1_14 ++ hostOps1_15)))))
/-- The fifth: their sum, and the expert of each row. -/
abbrev opsE : List (HloOp τ sig (Elt F)) := hostOps1_16.take 21
/-- The sixth: the position of each row. -/
abbrev opsE' : List (HloOp τ sig (Elt F)) := (hostOps1_16.drop 21).take 57
/-- The last: the products in the rows' order. -/
abbrev opsG : List (HloOp τ sig (Elt F)) := (hostOps1_16.drop 21).drop 57 ++ (hostOps1_17 ++ hostOps1_18)

theorem A_v6 : StableHlo.after opsA W (Proc.devRef .tc main_v6) = xd (W (Proc.devRef .tc main_v0_0)) (W (Proc.devRef .tc main_arg1)) := by
  simp only [opsA, hostOps1, hostOps1_1, hostOps1_2, hostOps1_3, hostOps1_4, hostOps1_5, List.cons_append, List.nil_append]
  after_reads_simp
  rfl
theorem A_v12 : StableHlo.after opsA W (Proc.devRef .tc main_v12) = wd (W (Proc.devRef .tc main_v0_1)) (W (Proc.devRef .tc main_arg3)) := by
  simp only [opsA, hostOps1, hostOps1_1, hostOps1_2, hostOps1_3, hostOps1_4, hostOps1_5, List.cons_append, List.nil_append]
  after_reads_simp
  rfl
theorem A_v15 : StableHlo.after opsA W (Proc.devRef .tc main_v15) = gbeg (cnt W) := by
  simp only [opsA, hostOps1, hostOps1_1, hostOps1_2, hostOps1_3, hostOps1_4, hostOps1_5, List.cons_append, List.nil_append]
  after_reads_simp
  simp only [StableHlo.TRef.toBuf, StableHlo.TRef.ofBuf, cast_eq, id]
  rfl
theorem A_v16 : StableHlo.after opsA W (Proc.devRef .tc main_v16) = gend (cnt W) := by
  simp only [opsA, hostOps1, hostOps1_1, hostOps1_2, hostOps1_3, hostOps1_4, hostOps1_5, List.cons_append, List.nil_append]
  after_reads_simp
  simp only [StableHlo.TRef.toBuf, StableHlo.TRef.ofBuf, cast_eq, id]
  rfl
theorem A_v18 : StableHlo.after opsA W (Proc.devRef .tc main_v18) = qbeg (cnt W) := by
  simp only [opsA, hostOps1, hostOps1_1, hostOps1_2, hostOps1_3, hostOps1_4, hostOps1_5, List.cons_append, List.nil_append]
  after_reads_simp
  simp only [StableHlo.TRef.toBuf, StableHlo.TRef.ofBuf, cast_eq, id]
  rfl
theorem A_v19 : StableHlo.after opsA W (Proc.devRef .tc main_v19) = qend (cnt W) := by
  simp only [opsA, hostOps1, hostOps1_1, hostOps1_2, hostOps1_3, hostOps1_4, hostOps1_5, List.cons_append, List.nil_append]
  after_reads_simp
  simp only [StableHlo.TRef.toBuf, StableHlo.TRef.ofBuf, cast_eq, id]
  rfl
theorem A_v20 : subi (StableHlo.after opsA W (Proc.devRef .tc main_v20)) (cnt W) = rbeg (cnt W) := by
  simp only [opsA, hostOps1, hostOps1_1, hostOps1_2, hostOps1_3, hostOps1_4, hostOps1_5, List.cons_append, List.nil_append]
  after_reads_simp
  simp only [StableHlo.TRef.toBuf, StableHlo.TRef.ofBuf, cast_eq, id]
  rfl
theorem A_cnt : StableHlo.after opsA W (Proc.devRef .tc main_arg4) = cnt W := by
  simp only [opsA, hostOps1, hostOps1_1, hostOps1_2, hostOps1_3, hostOps1_4, hostOps1_5, List.cons_append, List.nil_append]
  after_reads_simp

section
variable (C : IVec S10x4 32) (hC : W (Proc.devRef .tc main_arg4) = C)
  (h15 : W (Proc.devRef .tc main_v15) = gbeg C) (h16 : W (Proc.devRef .tc main_v16) = gend C)
include hC
theorem B_v21 (h20 : subi (W (Proc.devRef .tc main_v20)) C = rbeg C) : StableHlo.after opsB W (Proc.devRef .tc main_v21) = rbeg C := by
  simp only [opsB, hostOps1_6, List.take_succ_cons, List.take_zero]
  after_reads_simp
  rw [hC]
  exact h20
theorem B_v22 (h20 : subi (W (Proc.devRef .tc main_v20)) C = rbeg C) : StableHlo.after opsB W (Proc.devRef .tc main_v22) = rend C := by
  simp only [opsB, hostOps1_6, List.take_succ_cons, List.take_zero]
  after_reads_simp
  rw [hC]
  exact congrArg (addi · C) h20
theorem B_v23 : StableHlo.after opsB W (Proc.devRef .tc main_v23) = rows C := by
  simp only [opsB, hostOps1_6, List.take_succ_cons, List.take_zero]
  after_reads_simp
  rw [hC]
  rfl
theorem B_v24 : StableHlo.after opsB W (Proc.devRef .tc main_v24) = pos := by
  simp only [opsB, hostOps1_6, List.take_succ_cons, List.take_zero]
  after_reads_simp
  rfl
include h15 h16
set_option maxHeartbeats 1000000 in
theorem B_v33 : StableHlo.after opsB W (Proc.devRef .tc main_v33) = pe C := by
  simp only [opsB, hostOps1_6, List.take_succ_cons, List.take_zero]
  after_reads_simp
  rw [h16]
  rfl
set_option maxHeartbeats 1000000 in
theorem B_v41 : StableHlo.after opsB W (Proc.devRef .tc main_v41) = po C := by
  simp only [opsB, hostOps1_6, List.take_succ_cons, List.take_zero]
  after_reads_simp
  rw [h16, h15]
  rfl
set_option maxHeartbeats 1000000 in
theorem B_v56 (h19 : W (Proc.devRef .tc main_v19) = qend C) : StableHlo.after opsB W (Proc.devRef .tc main_v56) = ps C := by
  simp only [opsB, hostOps1_6, List.take_succ_cons, List.take_zero]
  after_reads_simp
  rw [h16, h15, h19]
  rfl
omit hC h15 h16
theorem B'_v90 (h33 : W (Proc.devRef .tc main_v33) = pe C) (h41 : W (Proc.devRef .tc main_v41) = po C) (h56 : W (Proc.devRef .tc main_v56) = ps C)
    (h18 : W (Proc.devRef .tc main_v18) = qbeg C) (h21 : W (Proc.devRef .tc main_v21) = rbeg C) :
    StableHlo.after opsB' W (Proc.devRef .tc main_v90) = psrc C := by
  simp only [opsB', hostOps1_6, hostOps1_7, besideP_eq, List.drop_succ_cons, List.drop_zero, List.cons_append, List.nil_append]
  after_reads_simp
  simp only [StableHlo.TRef.toBuf, StableHlo.TRef.ofBuf, cast_eq, id]
  rw [h33, h41, h56, h18, h21]
  rfl
theorem C_v97 (h90 : W (Proc.devRef .tc main_v90) = psrc C) :
    StableHlo.after opsC W (Proc.devRef .tc main_v97) = xs (W (Proc.devRef .tc main_v6)) C := by
  simp only [opsC, hostOps1_8]
  after_reads_simp
  rw [h90]
  rfl
theorem C_v98 : StableHlo.after opsC W (Proc.devRef .tc main_v98) = broadcastInDim S5120x5632 ![] bcast_S_S5120x5632 (constant S_ .f32 0x00000000#32) := by
  simp only [opsC, hostOps1_8]
  after_reads_simp
theorem C_c22 : StableHlo.after opsC W (Proc.devRef .tc main_c_22) = nil := by
  simp only [opsC, hostOps1_8]
  after_reads_simp
  rfl
theorem C_v108 (h15 : W (Proc.devRef .tc main_v15) = gbeg C) (h16 : W (Proc.devRef .tc main_v16) = gend C) (h24 : W (Proc.devRef .tc main_v24) = pos) :
    StableHlo.after opsC W (Proc.devRef .tc main_v108) = colP (mask C 0 slices_S4_S1_0) := by
  simp only [opsC, hostOps1_8]
  after_reads_simp
  rw [h15, h16, h24]
  rfl
end

section
variable (C : IVec S10x4 32) (Y : FVec F S5120x16384 .bf16) (h97 : W (Proc.devRef .tc main_v97) = Y)
  (h15 : W (Proc.devRef .tc main_v15) = gbeg C) (h16 : W (Proc.devRef .tc main_v16) = gend C) (h24 : W (Proc.devRef .tc main_v24) = pos)
include h97 h15 h16 h24
theorem D_v143 (h98 : W (Proc.devRef .tc main_v98) = broadcastInDim S5120x5632 ![] bcast_S_S5120x5632 (constant S_ .f32 0x00000000#32))
    (h22 : W (Proc.devRef .tc main_c_22) = nil) (h108 : W (Proc.devRef .tc main_v108) = colP (mask C 0 slices_S4_S1_0)) :
    StableHlo.after opsD W (Proc.devRef .tc main_v143)
      = addf (addf (addf (broadcastInDim S5120x5632 ![] bcast_S_S5120x5632 (constant S_ .f32 0x00000000#32))
        (part Y (W (Proc.devRef .tc main_v12)) C 0 slices_S4_S1_0 slices_S4x16384x5632_S1x16384x5632_0_0_0))
        (part Y (W (Proc.devRef .tc main_v12)) C 1 slices_S4_S1_1 slices_S4x16384x5632_S1x16384x5632_1_0_0))
        (part Y (W (Proc.devRef .tc main_v12)) C 2 slices_S4_S1_2 slices_S4x16384x5632_S1x16384x5632_2_0_0) := by
  simp only [opsD, hostOps1_9, hostOps1_10, hostOps1_11, hostOps1_12, hostOps1_13, hostOps1_14, hostOps1_15, List.cons_append, List.nil_append]
  after_reads_simp
  simp only [StableHlo.TRef.toBuf, StableHlo.TRef.ofBuf, cast_eq, id]
  rw [h97, h15, h16, h24, h98, h22, h108]
  rfl
theorem D_v154 : StableHlo.after opsD W (Proc.devRef .tc main_v154) = own Y C 3 slices_S4_S1_3 := by
  simp only [opsD, hostOps1_9, hostOps1_10, hostOps1_11, hostOps1_12, hostOps1_13, hostOps1_14, hostOps1_15, List.cons_append, List.nil_append]
  after_reads_simp
  simp only [StableHlo.TRef.toBuf, StableHlo.TRef.ofBuf, cast_eq, id]
  rw [h97, h15, h16, h24]
  rfl
end

section
variable (C : IVec S10x4 32)
theorem E_v158 (Y : FVec F S5120x16384 .bf16) (h154 : W (Proc.devRef .tc main_v154) = own Y C 3 slices_S4_S1_3) :
    StableHlo.after opsE W (Proc.devRef .tc main_v158)
      = addf (W (Proc.devRef .tc main_v143)) (part Y (W (Proc.devRef .tc main_v12)) C 3 slices_S4_S1_3 slices_S4x16384x5632_S1x16384x5632_3_0_0) := by
  simp only [opsE, hostOps1_16, List.take_succ_cons, List.take_zero]
  after_reads_simp
  rw [h154]
  rfl
theorem E_v159 : StableHlo.after opsE W (Proc.devRef .tc main_v159) = row := by
  simp only [opsE, hostOps1_16, List.take_succ_cons, List.take_zero]
  after_reads_simp
  rfl
theorem E_v168 (h22 : W (Proc.devRef .tc main_v22) = rend C) : StableHlo.after opsE W (Proc.devRef .tc main_v168) = re C := by
  simp only [opsE, hostOps1_16, List.take_succ_cons, List.take_zero]
  after_reads_simp
  rw [h22]
  rfl
theorem E_v173 (h23 : W (Proc.devRef .tc main_v23) = rows C) : StableHlo.after opsE W (Proc.devRef .tc main_v173) = valid C := by
  simp only [opsE, hostOps1_16, List.take_succ_cons, List.take_zero]
  after_reads_simp
  rw [h23]
  rfl
theorem E'_v219 (h159 : W (Proc.devRef .tc main_v159) = row) (h168 : W (Proc.devRef .tc main_v168) = re C)
    (h15 : W (Proc.devRef .tc main_v15) = gbeg C) (h18 : W (Proc.devRef .tc main_v18) = qbeg C) (h21 : W (Proc.devRef .tc main_v21) = rbeg C) :
    StableHlo.after opsE' W (Proc.devRef .tc main_v219) = dest C := by
  simp only [opsE', hostOps1_16, besideR_eq, List.drop_succ_cons, List.drop_zero, List.take_succ_cons, List.take_zero]
  after_reads_simp
  rw [h159, h168, h15, h18, h21]
  rfl
theorem G_v231 (h219 : W (Proc.devRef .tc main_v219) = dest C) (h173 : W (Proc.devRef .tc main_v173) = valid C) :
    StableHlo.after opsG W (Proc.devRef .tc main_v231)
      = truncf .bf16 (shapeCast S10x512x5632 (back (W (Proc.devRef .tc main_v158)) C) shapeCasts_S5120x5632_S10x512x5632) bitsLt_bf16_f32 := by
  simp only [opsG, hostOps1_16, hostOps1_17, hostOps1_18, List.drop_succ_cons, List.drop_zero, List.cons_append, List.nil_append]
  after_reads_simp
  simp only [StableHlo.TRef.toBuf, StableHlo.TRef.ofBuf, cast_eq, id]
  rw [h173, h219]
  rfl
end

/-! ## What each stretch leaves alone -/

theorem B_keep : StableHlo.after opsB W (Proc.devRef .tc main_v6) = W (Proc.devRef .tc main_v6) ∧ StableHlo.after opsB W (Proc.devRef .tc main_v12) = W (Proc.devRef .tc main_v12) ∧ StableHlo.after opsB W (Proc.devRef .tc main_v15) = W (Proc.devRef .tc main_v15) ∧ StableHlo.after opsB W (Proc.devRef .tc main_v16) = W (Proc.devRef .tc main_v16) ∧ StableHlo.after opsB W (Proc.devRef .tc main_v18) = W (Proc.devRef .tc main_v18) := by
  simp only [opsB, hostOps1_6, List.take_succ_cons, List.take_zero]
  refine ⟨?_, ?_, ?_, ?_, ?_⟩ <;> after_reads_simp
theorem B'_keep : StableHlo.after opsB' W (Proc.devRef .tc main_v6) = W (Proc.devRef .tc main_v6) ∧ StableHlo.after opsB' W (Proc.devRef .tc main_v12) = W (Proc.devRef .tc main_v12) ∧ StableHlo.after opsB' W (Proc.devRef .tc main_v15) = W (Proc.devRef .tc main_v15) ∧ StableHlo.after opsB' W (Proc.devRef .tc main_v16) = W (Proc.devRef .tc main_v16) ∧ StableHlo.after opsB' W (Proc.devRef .tc main_v18) = W (Proc.devRef .tc main_v18) ∧ StableHlo.after opsB' W (Proc.devRef .tc main_v21) = W (Proc.devRef .tc main_v21) ∧ StableHlo.after opsB' W (Proc.devRef .tc main_v22) = W (Proc.devRef .tc main_v22) ∧ StableHlo.after opsB' W (Proc.devRef .tc main_v23) = W (Proc.devRef .tc main_v23) ∧ StableHlo.after opsB' W (Proc.devRef .tc main_v24) = W (Proc.devRef .tc main_v24) := by
  simp only [opsB', hostOps1_6, hostOps1_7, List.drop_succ_cons, List.drop_zero, List.cons_append, List.nil_append]
  refine ⟨?_, ?_, ?_, ?_, ?_, ?_, ?_, ?_, ?_⟩ <;> after_reads_simp
theorem C_keep : StableHlo.after opsC W (Proc.devRef .tc main_v12) = W (Proc.devRef .tc main_v12) ∧ StableHlo.after opsC W (Proc.devRef .tc main_v15) = W (Proc.devRef .tc main_v15) ∧ StableHlo.after opsC W (Proc.devRef .tc main_v16) = W (Proc.devRef .tc main_v16) ∧ StableHlo.after opsC W (Proc.devRef .tc main_v18) = W (Proc.devRef .tc main_v18) ∧ StableHlo.after opsC W (Proc.devRef .tc main_v21) = W (Proc.devRef .tc main_v21) ∧ StableHlo.after opsC W (Proc.devRef .tc main_v22) = W (Proc.devRef .tc main_v22) ∧ StableHlo.after opsC W (Proc.devRef .tc main_v23) = W (Proc.devRef .tc main_v23) ∧ StableHlo.after opsC W (Proc.devRef .tc main_v24) = W (Proc.devRef .tc main_v24) := by
  simp only [opsC, hostOps1_8]
  refine ⟨?_, ?_, ?_, ?_, ?_, ?_, ?_, ?_⟩ <;> after_reads_simp
theorem D_keep : StableHlo.after opsD W (Proc.devRef .tc main_v12) = W (Proc.devRef .tc main_v12) ∧ StableHlo.after opsD W (Proc.devRef .tc main_v15) = W (Proc.devRef .tc main_v15) ∧ StableHlo.after opsD W (Proc.devRef .tc main_v18) = W (Proc.devRef .tc main_v18) ∧ StableHlo.after opsD W (Proc.devRef .tc main_v21) = W (Proc.devRef .tc main_v21) ∧ StableHlo.after opsD W (Proc.devRef .tc main_v22) = W (Proc.devRef .tc main_v22) ∧ StableHlo.after opsD W (Proc.devRef .tc main_v23) = W (Proc.devRef .tc main_v23) := by
  simp only [opsD, hostOps1_9, hostOps1_10, hostOps1_11, hostOps1_12, hostOps1_13, hostOps1_14, hostOps1_15, List.cons_append, List.nil_append]
  refine ⟨?_, ?_, ?_, ?_, ?_, ?_⟩ <;> after_reads_simp
theorem E_keep : StableHlo.after opsE W (Proc.devRef .tc main_v15) = W (Proc.devRef .tc main_v15) ∧ StableHlo.after opsE W (Proc.devRef .tc main_v18) = W (Proc.devRef .tc main_v18) ∧ StableHlo.after opsE W (Proc.devRef .tc main_v21) = W (Proc.devRef .tc main_v21) := by
  simp only [opsE, hostOps1_16, List.take_succ_cons, List.take_zero]
  refine ⟨?_, ?_, ?_⟩ <;> after_reads_simp
theorem E'_keep : StableHlo.after opsE' W (Proc.devRef .tc main_v158) = W (Proc.devRef .tc main_v158) ∧ StableHlo.after opsE' W (Proc.devRef .tc main_v173) = W (Proc.devRef .tc main_v173) := by
  simp only [opsE', hostOps1_16, List.drop_succ_cons, List.drop_zero, List.take_succ_cons, List.take_zero]
  refine ⟨?_, ?_⟩ <;> after_reads_simp

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem lists {α : Type*} (l0 l1 l2 l3 l4 l5 l6 l7 l8 l9 l10 l11 l12 l13 l14 l15 l16 l17 l18 : List α) :
    List.flatten [l0, l1, l2, l3, l4, l5, l6, l7, l8, l9, l10, l11, l12, l13, l14, l15, l16, l17, l18]
      = (l0 ++ (l1 ++ (l2 ++ (l3 ++ (l4 ++ l5))))) ++ (l6.take 45 ++ ((l6.drop 45 ++ l7) ++ (l8 ++ ((l9 ++ (l10 ++ (l11 ++ (l12 ++ (l13 ++ (l14 ++ l15)))))) ++ (l16.take 21 ++ ((l16.drop 21).take 57 ++ ((l16.drop 21).drop 57 ++ (l17 ++ l18)))))))) := by
  have h : ∀ (n : ℕ) (l r : List α), l.take n ++ (l.drop n ++ r) = l ++ r := fun n l r => by rw [← List.append_assoc, List.take_append_drop]
  simp only [List.flatten_cons, List.flatten_nil, List.append_nil, List.append_assoc, h]

/-- The line is the stretches one after the other. -/
theorem line : StableHlo.after (List.flatten [hostOps1, hostOps1_1, hostOps1_2, hostOps1_3, hostOps1_4, hostOps1_5, hostOps1_6, hostOps1_7, hostOps1_8,
      hostOps1_9, hostOps1_10, hostOps1_11, hostOps1_12, hostOps1_13, hostOps1_14, hostOps1_15, hostOps1_16, hostOps1_17, hostOps1_18]) W
    = StableHlo.after opsG (StableHlo.after opsE' (StableHlo.after opsE (StableHlo.after opsD (StableHlo.after opsC (StableHlo.after opsB' (StableHlo.after opsB
        (StableHlo.after opsA W))))))) := by
  rw [← after_append, ← after_append, ← after_append, ← after_append, ← after_append, ← after_append, ← after_append]
  refine congrArg (fun l => StableHlo.after l W) ?_
  exact lists ..

/-- What the line of host operations leaves in the result. -/
theorem read : StableHlo.after (List.flatten [hostOps1, hostOps1_1, hostOps1_2, hostOps1_3, hostOps1_4, hostOps1_5, hostOps1_6, hostOps1_7, hostOps1_8,
      hostOps1_9, hostOps1_10, hostOps1_11, hostOps1_12, hostOps1_13, hostOps1_14, hostOps1_15, hostOps1_16, hostOps1_17, hostOps1_18]) W (Proc.devRef .tc main_v231)
      = out (W (Proc.devRef .tc main_v0_0)) (W (Proc.devRef .tc main_arg1)) (W (Proc.devRef .tc main_v0_1)) (W (Proc.devRef .tc main_arg3)) (cnt W) := by
  rw [line]
  set C := cnt W with hC
  set WA := StableHlo.after opsA W with hWA
  have a4 : WA (Proc.devRef .tc main_arg4) = C := A_cnt W
  have a6 : WA (Proc.devRef .tc main_v6) = _ := A_v6 W
  have a12 : WA (Proc.devRef .tc main_v12) = _ := A_v12 W
  have a15 : WA (Proc.devRef .tc main_v15) = gbeg C := A_v15 W
  have a16 : WA (Proc.devRef .tc main_v16) = gend C := A_v16 W
  have a18 : WA (Proc.devRef .tc main_v18) = qbeg C := A_v18 W
  have a19 : WA (Proc.devRef .tc main_v19) = qend C := A_v19 W
  have a20 : subi (WA (Proc.devRef .tc main_v20)) C = rbeg C := A_v20 W
  clear_value WA
  set WB := StableHlo.after opsB WA with hWB
  obtain ⟨b6, b12, b15, b16, b18⟩ := B_keep WA
  have b21 := B_v21 WA C a4 a20
  have b22 := B_v22 WA C a4 a20
  have b23 := B_v23 WA C a4
  have b24 := B_v24 WA C a4
  have b33 := B_v33 WA C a4 a15 a16
  have b41 := B_v41 WA C a4 a15 a16
  have b56 := B_v56 WA C a4 a15 a16 a19
  rw [← hWB] at b6 b12 b15 b16 b18 b21 b22 b23 b24 b33 b41 b56
  clear_value WB
  set WB' := StableHlo.after opsB' WB with hWB'
  obtain ⟨c6, c12, c15, c16, c18, c21, c22, c23, c24⟩ := B'_keep WB
  have c90 := B'_v90 WB C b33 b41 b56 (b18.trans a18) b21
  rw [← hWB'] at c6 c12 c15 c16 c18 c21 c22 c23 c24 c90
  clear_value WB'
  set WC := StableHlo.after opsC WB' with hWC
  obtain ⟨d12, d15, d16, d18, d21, d22, d23, d24⟩ := C_keep WB'
  have d97 := C_v97 WB' C c90
  have d98 := C_v98 WB'
  have dc := C_c22 WB'
  have d108 := C_v108 WB' C (c15.trans (b15.trans a15)) (c16.trans (b16.trans a16)) (c24.trans b24)
  rw [← hWC] at d12 d15 d16 d18 d21 d22 d23 d24 d97 d98 dc d108
  clear_value WC
  set WD := StableHlo.after opsD WC with hWD
  obtain ⟨e12, e15, e18, e21, e22, e23⟩ := D_keep WC
  have e143 := D_v143 WC C _ d97 (d15.trans (c15.trans (b15.trans a15))) (d16.trans (c16.trans (b16.trans a16))) (d24.trans (c24.trans b24)) d98 dc d108
  have e154 := D_v154 WC C _ d97 (d15.trans (c15.trans (b15.trans a15))) (d16.trans (c16.trans (b16.trans a16))) (d24.trans (c24.trans b24))
  rw [← hWD] at e12 e15 e18 e21 e22 e23 e143 e154
  clear_value WD
  set WE := StableHlo.after opsE WD with hWE
  obtain ⟨f15, f18, f21⟩ := E_keep WD
  have f158 := E_v158 WD C _ e154
  have f159 := E_v159 WD
  have f168 := E_v168 WD C (e22.trans (d22.trans (c22.trans b22)))
  have f173 := E_v173 WD C (e23.trans (d23.trans (c23.trans b23)))
  rw [← hWE] at f15 f18 f21 f158 f159 f168 f173
  clear_value WE
  set WE' := StableHlo.after opsE' WE with hWE'
  obtain ⟨g158, g173⟩ := E'_keep WE
  have g219 := E'_v219 WE C f159 f168 (f15.trans (e15.trans (d15.trans (c15.trans (b15.trans a15)))))
    (f18.trans (e18.trans (d18.trans (c18.trans (b18.trans a18))))) (f21.trans (e21.trans (d21.trans (c21.trans b21))))
  rw [← hWE'] at g158 g173 g219
  clear_value WE'
  rw [G_v231 WE' C g219 (g173.trans f173), g158, f158, e143, e12, d12, c12, b12, a12, c6, b6, a6]
  rfl
end
end Cert.ReferenceIdeal.Route
-- ==== Proof.Line.lean ====
/- Running sums of natural numbers as segments of a line, words that hold small naturals, and the host's sums and takes
   over such words read at an entry. -/
module

public import proofs.«01_k».proof.Proof.Route
public import proofs.«01_k».proof.Proof.Scan
public import Idealize.ShloMosaic.Lib.Pointwise
public import Idealize.ShloMosaic.Lib.WordCmp
public import Idealize.ShloMosaic.Lib.Routing.OpsSet
public import Idealize.ShloMosaic.Lib.Routing.OpsOne

@[expose] public section

set_option maxRecDepth 16384

noncomputable section

namespace Cert.Line

open Idealize.ShloMosaic

/-! ## Segments of a line -/

/-- The sum of the first `n`. -/
def pre (f : ℕ → ℕ) (n : ℕ) : ℕ := ((List.range n).map f).sum

theorem pre_zero (f : ℕ → ℕ) : pre f 0 = 0 := rfl
theorem pre_succ (f : ℕ → ℕ) (n : ℕ) : pre f (n + 1) = pre f n + f n := by
  simp [pre, List.range_succ]
theorem pre_mono (f : ℕ → ℕ) {m n : ℕ} (h : m ≤ n) : pre f m ≤ pre f n := by
  induction n, h using Nat.le_induction with
  | base => exact le_rfl
  | succ n _ ih => rw [pre_succ]; omega
theorem pre_congr (f g : ℕ → ℕ) (n : ℕ) (h : ∀ i < n, f i = g i) : pre f n = pre g n := by
  induction n with
  | zero => rfl
  | succ n ih => rw [pre_succ, pre_succ, ih fun i hi => h i (by omega), h n (by omega)]
theorem pre_sum (f : ℕ → ℕ → ℕ) (n k : ℕ) : pre (fun e => pre (fun s => f s e) n) k = pre (fun s => pre (fun e => f s e) k) n := by
  induction k with
  | zero =>
    rw [pre_zero]
    induction n with
    | zero => rfl
    | succ n ih => rw [pre_succ, ← ih, pre_zero]
  | succ k ih =>
    rw [pre_succ, ih]
    clear ih
    induction n with
    | zero => rfl
    | succ n ih => rw [pre_succ, pre_succ, pre_succ, ← ih, pre_succ]; omega

/-- How many segments end at or before a point of segment `k`. -/
theorem count_ends (f : ℕ → ℕ) (x k n : ℕ) (hk : k < n) (h0 : pre f k ≤ x) (h1 : x < pre f (k + 1)) :
    pre (fun j => if pre f (j + 1) ≤ x then 1 else 0) n = k := by
  have hj : ∀ j, pre f (j + 1) ≤ x ↔ j < k := fun j => by
    constructor
    · intro h
      by_contra hc
      have := pre_mono f (show k + 1 ≤ j + 1 by omega)
      omega
    · intro h
      have := pre_mono f (show j + 1 ≤ k by omega)
      omega
  have : ∀ n, pre (fun j => if pre f (j + 1) ≤ x then 1 else 0) n = min n k := fun n => by
    induction n with
    | zero => rw [pre_zero]; omega
    | succ n ih => rw [pre_succ, ih, if_congr (hj n) rfl rfl]; split <;> omega
  rw [this]; omega

/-- A point before the end is in some segment. -/
theorem exists_seg (f : ℕ → ℕ) (x n : ℕ) (h : x < pre f n) : ∃ k < n, pre f k ≤ x ∧ x < pre f (k + 1) := by
  induction n with
  | zero => rw [pre_zero] at h; omega
  | succ n ih =>
    by_cases hx : x < pre f n
    · obtain ⟨k, hk, h'⟩ := ih hx
      exact ⟨k, by omega, h'⟩
    · exact ⟨n, by omega, by omega, h⟩

/-- And in one only. -/
theorem seg_unique (f : ℕ → ℕ) (x j k : ℕ) (hj : pre f j ≤ x ∧ x < pre f (j + 1)) (hk : pre f k ≤ x ∧ x < pre f (k + 1)) : j = k := by
  by_contra h
  rcases Nat.lt_or_gt_of_ne h with h | h
  · have := pre_mono f (show j + 1 ≤ k by omega); omega
  · have := pre_mono f (show k + 1 ≤ j by omega); omega

/-! ## Words that hold small naturals -/

theorem sub_word (a b : ℕ) (h : b ≤ a) : IntOp.subi (BitVec.ofNat 32 a) (BitVec.ofNat 32 b) = BitVec.ofNat 32 (a - b) := by
  obtain ⟨d, rfl⟩ := Nat.exists_eq_add_of_le h
  rw [Nat.add_sub_cancel_left, BitVec.ofNat_add]
  show BitVec.ofNat 32 b + BitVec.ofNat 32 d - BitVec.ofNat 32 b = _
  rw [BitVec.add_comm, BitVec.add_sub_cancel]
theorem add_word (a b : ℕ) : IntOp.addi (BitVec.ofNat 32 a) (BitVec.ofNat 32 b) = BitVec.ofNat 32 (a + b) := (BitVec.ofNat_add _ _).symm
theorem mul_word (a b : ℕ) : IntOp.muli (BitVec.ofNat 32 a) (BitVec.ofNat 32 b) = BitVec.ofNat 32 (a * b) := (BitVec.ofNat_mul _ _).symm
theorem sle_word (a b : ℕ) (ha : a < 2 ^ 31) (hb : b < 2 ^ 31) : IntOp.cmpi .sle (BitVec.ofNat 32 a) (BitVec.ofNat 32 b) = if a ≤ b then 1#1 else 0#1 := by
  rw [WordCmp.cmpi_sle_eq, WordCmp.toInt_ofNat_of_lt ha, WordCmp.toInt_ofNat_of_lt hb, WordCmp.ofBool_decide_eq_ite]
  exact if_congr Int.ofNat_le rfl rfl
theorem slt_word (a b : ℕ) (ha : a < 2 ^ 31) (hb : b < 2 ^ 31) : IntOp.cmpi .slt (BitVec.ofNat 32 a) (BitVec.ofNat 32 b) = if a < b then 1#1 else 0#1 := by
  rw [WordCmp.cmpi_slt_eq, WordCmp.toInt_ofNat_of_lt ha, WordCmp.toInt_ofNat_of_lt hb, WordCmp.ofBool_decide_eq_ite]
  exact if_congr Int.ofNat_lt rfl rfl
theorem min_word (a b : ℕ) (ha : a < 2 ^ 31) (hb : b < 2 ^ 31) : IntOp.minsi (BitVec.ofNat 32 a) (BitVec.ofNat 32 b) = BitVec.ofNat 32 (min a b) := by
  have e1 : (BitVec.ofNat 32 a).toInt = a := WordCmp.toInt_ofNat_of_lt ha
  have e2 : (BitVec.ofNat 32 b).toInt = b := WordCmp.toInt_ofNat_of_lt hb
  unfold IntOp.minsi
  rw [BitVec.slt, e1, e2]
  by_cases h : a < b
  · rw [if_pos (decide_eq_true (Int.ofNat_lt.2 h)), Nat.min_eq_left h.le]
  · rw [if_neg (by simpa using h), Nat.min_eq_right (by omega)]
theorem max_word (a b : ℕ) (ha : a < 2 ^ 31) (hb : b < 2 ^ 31) : IntOp.maxsi (BitVec.ofNat 32 a) (BitVec.ofNat 32 b) = BitVec.ofNat 32 (max a b) := by
  have e1 : (BitVec.ofNat 32 a).toInt = a := WordCmp.toInt_ofNat_of_lt ha
  have e2 : (BitVec.ofNat 32 b).toInt = b := WordCmp.toInt_ofNat_of_lt hb
  unfold IntOp.maxsi
  rw [BitVec.slt, e1, e2]
  by_cases h : b < a
  · rw [if_pos (decide_eq_true (Int.ofNat_lt.2 h)), Nat.max_eq_left h.le]
  · rw [if_neg (by simpa using h), Nat.max_eq_right (by omega)]

/-! ## The host's sums and takes at an entry -/

/-- A sum over an axis, the entries it takes in listed by `back`. -/
theorem reduce_at {s t u : Shape} {axes : List (Fin s.rank)} (x : IVec s 32) (h : s.ReducesTo axes t) (hu : 0 < u.numel) (j : t.Idx)
    (n : ℕ) (back : Fin n → s.Idx) (hb : ∀ k, h.drop (back k) = j) (hall : ∀ i, h.drop i = j → ∃ k, back k = i)
    (hinj : Function.Injective back) (f : ℕ → ℕ) (hx : ∀ k : Fin n, x (back k) = BitVec.ofNat 32 (f k.val)) (hlt : pre f n < 2 ^ 32) :
    Host.reduce IntOp.addi x (constantI u 32 0#32) h hu j = BitVec.ofNat 32 (pre f n) := by
  classical
  have hf : ∀ i < n, f i < 2 ^ 32 := fun i hi => by
    have := pre_mono f (show i + 1 ≤ n by omega)
    rw [pre_succ] at this; omega
  have hfin : ∑ k : Fin n, f k.val = pre f n := by
    rw [Fin.sum_univ_eq_sum_range (fun k => f k) n]
    clear hx hlt hf hall hinj hb
    induction n with
    | zero => rfl
    | succ n ih => rw [Finset.sum_range_succ, pre_succ, ih (fun k => back k.castSucc)]
  have hsum : ∑ i ∈ Finset.univ.filter (fun i : s.Idx => h.drop i = j), (x i).toNat = pre f n := by
    rw [← hfin]
    refine (Finset.sum_bij (fun k _ => back k) (fun k _ => Finset.mem_filter.2 ⟨Finset.mem_univ _, hb k⟩) (fun a _ b _ e => hinj e)
      (fun i hi => ?_) (fun k _ => ?_)).symm
    · obtain ⟨k, hk⟩ := hall i (Finset.mem_filter.1 hi).2
      exact ⟨k, Finset.mem_univ _, hk⟩
    · rw [hx, BitVec.toNat_ofNat, Nat.mod_eq_of_lt (hf k.val k.isLt)]
  apply BitVec.eq_of_toNat_eq
  rw [Host.reduce_eq_fold]
  show (Finset.fold IntOp.addi 0#32 x (Finset.univ.filter fun i : s.Idx => h.drop i = j)).toNat = _
  rw [StableHlo.Predicate.toNat_fold_addi _ _ (by rw [hsum]; exact hlt), hsum, BitVec.toNat_ofNat, Nat.mod_eq_of_lt hlt]

open Cert.ReferenceIdeal

theorem clamp (b N : ℕ) (hb : b < N) (hN : N < 2 ^ 31) : min ((BitVec.ofNat 32 b).toInt.toNat) (N - 1) = b := by
  rw [StableHlo.Predicate.toInt_ofNat_small _ (by omega)]; omega

/-- The columns of a table, one for each position. -/
theorem take_cols {α : Type} (x : S10x4.Idx → α) (idx : IVec S5120x1 32) (s : Fin 10) (p : Fin 5120) (e : Fin 4)
    (hi : idx (ix2 p (0 : Fin 1)) = BitVec.ofNat 32 e.val) :
    Host.gather gather_S10x4_S5120x1_S10x5120_0_1_n_n_1_1_101 x idx (ix2 s p) = x (ix2 s e) := by
  unfold Host.gather
  refine congrArg x (funext fun a => Fin.ext ?_)
  match a with
  | ⟨0, _⟩ => exact (show 0 + 0 + s.val = s.val by omega)
  | ⟨1, _⟩ =>
    have hsi : GatherDims.siIdx gather_S10x4_S5120x1_S10x5120_0_1_n_n_1_1_101 (ix2 s p) ⟨0, Nat.one_pos⟩ = ix2 p (0 : Fin 1) := by
      funext b
      match b with
      | ⟨0, _⟩ => rfl
      | ⟨1, _⟩ => rfl
    show min (idx (GatherDims.siIdx gather_S10x4_S5120x1_S10x5120_0_1_n_n_1_1_101 (ix2 s p) ⟨0, Nat.one_pos⟩)).toInt.toNat (4 - 1) + 0 + 0 = e.val
    rw [hsi, hi, clamp e.val 4 e.isLt (by decide)]
    rfl

/-- A table's entries, one for each position. -/
theorem take_pairsP {α : Type} (x : S10x4.Idx → α) (idx : IVec S5120x2 32) (p : Fin 5120) (s : Fin 10) (e : Fin 4)
    (h0 : idx (ix2 p (0 : Fin 2)) = BitVec.ofNat 32 s.val) (h1 : idx (ix2 p (1 : Fin 2)) = BitVec.ofNat 32 e.val) :
    Host.gather gather_S10x4_S5120x2_S5120_n_01_n_n_01_1_11 x idx (ix1 p) = x (ix2 s e) := by
  unfold Host.gather
  refine congrArg x (funext fun a => Fin.ext ?_)
  have hsi : ∀ (k : Fin 2), GatherDims.siIdx gather_S10x4_S5120x2_S5120_n_01_n_n_01_1_11 (ix1 p) k = ix2 p k := fun k => by
    funext b
    match b with
    | ⟨0, _⟩ => rfl
    | ⟨1, _⟩ => rfl
  match a with
  | ⟨0, _⟩ =>
    show min (idx (GatherDims.siIdx gather_S10x4_S5120x2_S5120_n_01_n_n_01_1_11 (ix1 p) (0 : Fin 2))).toInt.toNat (10 - 1) + 0 + 0 = s.val
    rw [hsi, h0, clamp s.val 10 s.isLt (by decide)]
    rfl
  | ⟨1, _⟩ =>
    show min (idx (GatherDims.siIdx gather_S10x4_S5120x2_S5120_n_01_n_n_01_1_11 (ix1 p) (1 : Fin 2))).toInt.toNat (4 - 1) + 0 + 0 = e.val
    rw [hsi, h1, clamp e.val 4 e.isLt (by decide)]
    rfl

/-- A list's entries, one for each row. -/
theorem take_list {α : Type} (x : S4.Idx → α) (idx : IVec S10x512x1 32) (s : Fin 10) (r : Fin 512) (e : Fin 4)
    (hi : idx (ix3 s r (0 : Fin 1)) = BitVec.ofNat 32 e.val) :
    Host.gather gather_S4_S10x512x1_S10x512_n_0_n_n_0_2_1 x idx (ix2 s r) = x (ix1 e) := by
  unfold Host.gather
  refine congrArg x (funext fun a => Fin.ext ?_)
  have hsi : ∀ k : Fin 1, GatherDims.siIdx gather_S4_S10x512x1_S10x512_n_0_n_n_0_2_1 (ix2 s r) k = ix3 s r k := fun k => by
    funext b
    match b with
    | ⟨0, _⟩ => rfl
    | ⟨1, _⟩ => rfl
    | ⟨2, _⟩ => rfl
  match a with
  | ⟨0, _⟩ =>
    show min (idx (GatherDims.siIdx gather_S4_S10x512x1_S10x512_n_0_n_n_0_2_1 (ix2 s r) (0 : Fin 1))).toInt.toNat (4 - 1) + 0 + 0 = e.val
    rw [hsi, hi, clamp e.val 4 e.isLt (by decide)]
    rfl

/-- A table's entries, one for each row. -/
theorem take_pairsR {α : Type} (x : S10x4.Idx → α) (idx : IVec S10x512x2 32) (s : Fin 10) (r : Fin 512) (s' : Fin 10) (e : Fin 4)
    (h0 : idx (ix3 s r (0 : Fin 2)) = BitVec.ofNat 32 s'.val) (h1 : idx (ix3 s r (1 : Fin 2)) = BitVec.ofNat 32 e.val) :
    Host.gather gather_S10x4_S10x512x2_S10x512_n_01_n_n_01_2_11 x idx (ix2 s r) = x (ix2 s' e) := by
  unfold Host.gather
  refine congrArg x (funext fun a => Fin.ext ?_)
  have hsi : ∀ k : Fin 2, GatherDims.siIdx gather_S10x4_S10x512x2_S10x512_n_01_n_n_01_2_11 (ix2 s r) k = ix3 s r k := fun k => by
    funext b
    match b with
    | ⟨0, _⟩ => rfl
    | ⟨1, _⟩ => rfl
    | ⟨2, _⟩ => rfl
  match a with
  | ⟨0, _⟩ =>
    show min (idx (GatherDims.siIdx gather_S10x4_S10x512x2_S10x512_n_01_n_n_01_2_11 (ix2 s r) (0 : Fin 2))).toInt.toNat (10 - 1) + 0 + 0 = s'.val
    rw [hsi, h0, clamp s'.val 10 s'.isLt (by decide)]
    rfl
  | ⟨1, _⟩ =>
    show min (idx (GatherDims.siIdx gather_S10x4_S10x512x2_S10x512_n_01_n_n_01_2_11 (ix2 s r) (1 : Fin 2))).toInt.toNat (4 - 1) + 0 + 0 = e.val
    rw [hsi, h1, clamp e.val 4 e.isLt (by decide)]
    rfl

end Cert.Line
-- ==== Proof.RouteAt.lean ====
/- The reference's routing read at an entry, for counts that add up to 5120 at most: the expert of a row, its
   position in the expert order, and back the expert, the source and the row of that position. -/
module

public import proofs.«01_k».proof.Proof.Line

@[expose] public section

set_option maxRecDepth 16384

noncomputable section

namespace Cert.ReferenceIdeal.Route

open Idealize.ShloMosaic Cert.Line
open Cert.ReferenceIdeal Cert.ReferenceIdeal.Gen

/-- The count of a source's rows for an expert, as a natural number; zero outside the table. -/
def cnat (C : IVec S10x4 32) (s e : ℕ) : ℕ := if h : s < 10 ∧ e < 4 then (C (ix2 (⟨s, h.1⟩ : Fin 10) (⟨e, h.2⟩ : Fin 4))).toNat else 0

/-- The counts add up to no more rows than there are. -/
def Good (C : IVec S10x4 32) : Prop := pre (fun s => pre (cnat C s) 4) 10 ≤ 5120

variable (C : IVec S10x4 32)

theorem cnt_at (s : Fin 10) (e : Fin 4) : C (ix2 s e) = BitVec.ofNat 32 (cnat C s e) := by
  unfold cnat
  rw [dif_pos ⟨s.isLt, e.isLt⟩, BitVec.ofNat_toNat, BitVec.setWidth_eq]

/-- An expert's rows. -/
def T (e : ℕ) : ℕ := pre (fun s => cnat C s e) 10
/-- Where an expert's rows begin. -/
def G (e : ℕ) : ℕ := pre (T C) e
/-- Where a source's rows begin among an expert's. -/
def Q (s e : ℕ) : ℕ := pre (fun s => cnat C s e) s
/-- Where an expert's rows begin among a source's. -/
def R (s e : ℕ) : ℕ := pre (cnat C s) e

theorem G_succ (e : ℕ) : G C (e + 1) = G C e + T C e := pre_succ _ _
theorem Q_succ (s e : ℕ) : Q C (s + 1) e = Q C s e + cnat C s e := pre_succ _ _
theorem R_succ (s e : ℕ) : R C s (e + 1) = R C s e + cnat C s e := pre_succ _ _

section
variable {C} (hC : Good C)
include hC
theorem R_le (s : Fin 10) (e : ℕ) (he : e ≤ 4) : R C s e ≤ 5120 := by
  have h1 : R C s e ≤ pre (cnat C s) 4 := pre_mono _ he
  have h2 := pre_mono (fun s => pre (cnat C s) 4) (show s.val + 1 ≤ 10 by omega)
  rw [pre_succ] at h2
  unfold Good at hC
  omega
theorem G_le (e : ℕ) (he : e ≤ 4) : G C e ≤ 5120 := by
  refine (pre_mono _ he).trans ?_
  show pre (fun e => pre (fun s => cnat C s e) 10) 4 ≤ 5120
  rw [pre_sum]
  exact hC
theorem T_le (e : Fin 4) : T C e ≤ 5120 := by
  have h1 := G_succ C e
  have h2 := G_le hC (e.val + 1) (by omega)
  omega
theorem Q_le (s : ℕ) (hs : s ≤ 10) (e : Fin 4) : Q C s e ≤ 5120 := (pre_mono _ hs).trans (T_le hC e)
end

/-! ## The running sums -/

theorem nil'_at : nil' ix0 = 0#32 := rfl

theorem tot_at (hC : Good C) (e : Fin 4) : tot C (ix1 e) = BitVec.ofNat 32 (T C e) :=
  reduce_at C reducesTo_S10x4_S4_d0 h_S_ (ix1 e) 10 (fun k => ix2 k e) (fun k => funext fun a => match a with | ⟨0, _⟩ => rfl)
    (fun i hi => ⟨i 0, by
      have h1 : i 1 = e := congrFun hi 0
      rw [eq_ix2 i, ← h1]; rfl⟩)
    (fun a b h => congrFun h 0) (fun s => cnat C s e) (fun k => cnt_at C k e) (by
      have := T_le hC e
      unfold T at this
      omega)

theorem rows_at (hC : Good C) (s : Fin 10) : rows C (ix1 s) = BitVec.ofNat 32 (R C s 4) :=
  reduce_at C reducesTo_S10x4_S10_d1 h_S_ (ix1 s) 4 (fun k => ix2 s k) (fun k => funext fun a => match a with | ⟨0, _⟩ => rfl)
    (fun i hi => ⟨i 1, by
      have h1 : i 0 = s := congrFun hi 0
      rw [eq_ix2 i, ← h1]; rfl⟩)
    (fun a b h => congrFun h 1) (cnat C s) (fun k => cnt_at C s k) (by
      have := R_le hC s 4 le_rfl
      unfold R at this
      omega)

theorem gbeg_at (hC : Good C) (e : Fin 4) : gbeg C (ix1 e) = BitVec.ofNat 32 (G C e) := by
  have h := Routing.cumsum1 (N := 4) (Nm1 := 3) rfl (tot C) (T C) (fun i => tot_at C hC i) nil' nil'_at reduceWindows_S4_S4_w4s1p3_0 h_S_ e
  show IntOp.subi (Host.reduceWindow IntOp.addi ![4] ![1] ![3] ![0] (tot C) nil' reduceWindows_S4_S4_w4s1p3_0 h_S_ (ix1 e)) (tot C (ix1 e)) = _
  refine (congrArg₂ IntOp.subi h (tot_at C hC e)).trans ?_
  refine (sub_word (G C (e.val + 1)) (T C e) (by rw [G_succ]; omega)).trans (congrArg _ ?_)
  rw [G_succ]; omega

theorem gend_at (hC : Good C) (e : Fin 4) : gend C (ix1 e) = BitVec.ofNat 32 (G C (e + 1)) :=
  (congrArg₂ IntOp.addi (gbeg_at C hC e) (tot_at C hC e)).trans ((add_word _ _).trans (congrArg _ (G_succ C e).symm))

theorem qbeg_at (s : Fin 10) (e : Fin 4) : qbeg C (ix2 s e) = BitVec.ofNat 32 (Q C s e) := by
  have h := Routing.cumsum_rows (R := 10) (Rm1 := 9) (C := 4) rfl C (cnat C) (fun i c => cnt_at C i c) nil' nil'_at
    reduceWindows_S10x4_S10x4_w10s1p9_0_w1s1p0_0 h_S_ s e
  refine (congrArg₂ IntOp.subi h (cnt_at C s e)).trans ?_
  refine (sub_word (Q C (s.val + 1) e) (cnat C s e) (by rw [Q_succ]; omega)).trans (congrArg _ ?_)
  rw [Q_succ]; omega

theorem qend_at (s : Fin 10) (e : Fin 4) : qend C (ix2 s e) = BitVec.ofNat 32 (Q C (s + 1) e) :=
  (congrArg₂ IntOp.addi (qbeg_at C s e) (cnt_at C s e)).trans ((add_word _ _).trans (congrArg _ (Q_succ C s e).symm))

theorem rstop_at (s : Fin 10) (e : Fin 4) :
    Host.reduceWindow IntOp.addi ![1, 4] ![1, 1] ![0, 3] ![0, 0] C nil' reduceWindows_S10x4_S10x4_w1s1p0_0_w4s1p3_0 h_S_ (ix2 s e)
      = BitVec.ofNat 32 (R C s (e + 1)) := by
  refine (Cert.Scan.cumsum_row C nil' nil'_at reduceWindows_S10x4_S10x4_w1s1p0_0_w4s1p3_0 h_S_ s (fun k => cnat C s k)
    (fun k => cnt_at C s k) e).trans (congrArg _ ?_)
  rw [Fin.sum_univ_four]
  unfold R pre
  fin_cases e <;> simp [List.range_succ] <;> omega

theorem rbeg_at (s : Fin 10) (e : Fin 4) : rbeg C (ix2 s e) = BitVec.ofNat 32 (R C s e) := by
  refine (congrArg₂ IntOp.subi (rstop_at C s e) (cnt_at C s e)).trans ?_
  refine (sub_word (R C s (e.val + 1)) (cnat C s e) (by rw [R_succ]; omega)).trans (congrArg _ ?_)
  rw [R_succ]; omega

theorem rend_at (s : Fin 10) (e : Fin 4) : rend C (ix2 s e) = BitVec.ofNat 32 (R C s (e + 1)) :=
  (congrArg₂ IntOp.addi (rbeg_at C s e) (cnt_at C s e)).trans ((add_word _ _).trans (congrArg _ (R_succ C s e).symm))

/-! ## Indices -/

theorem wrapP_at (k : BitVec 32) (x : IVec S5120 32) (p : Fin 5120) (n : ℕ) (hn : n < 2 ^ 31) (hx : x (ix1 p) = BitVec.ofNat 32 n) :
    wrapP k x (ix1 p) = BitVec.ofNat 32 n := by
  show Scalar.select (IntOp.cmpi .slt (x (ix1 p)) (BitVec.ofNat 32 0)) (IntOp.addi (x (ix1 p)) k) (x (ix1 p)) = _
  rw [hx, slt_word n 0 hn (by decide), if_neg (Nat.not_lt_zero n)]; rfl
theorem wrapR_at (k : BitVec 32) (x : IVec S10x512 32) (s : Fin 10) (r : Fin 512) (n : ℕ) (hn : n < 2 ^ 31) (hx : x (ix2 s r) = BitVec.ofNat 32 n) :
    wrapR k x (ix2 s r) = BitVec.ofNat 32 n := by
  show Scalar.select (IntOp.cmpi .slt (x (ix2 s r)) (BitVec.ofNat 32 0)) (IntOp.addi (x (ix2 s r)) k) (x (ix2 s r)) = _
  rw [hx, slt_word n 0 hn (by decide), if_neg (Nat.not_lt_zero n)]; rfl
theorem wrapS_at (k : BitVec 32) (x : IVec S10x1 32) (s : Fin 10) (n : ℕ) (hn : n < 2 ^ 31) (hx : x (ix2 s (0 : Fin 1)) = BitVec.ofNat 32 n) :
    wrapS k x (ix2 s (0 : Fin 1)) = BitVec.ofNat 32 n := by
  show Scalar.select (IntOp.cmpi .slt (x (ix2 s (0 : Fin 1))) (BitVec.ofNat 32 0)) (IntOp.addi (x (ix2 s (0 : Fin 1))) k) (x (ix2 s (0 : Fin 1))) = _
  rw [hx, slt_word n 0 hn (by decide), if_neg (Nat.not_lt_zero n)]; rfl
theorem colP_at {w : ℕ} (x : IVec S5120 w) (p : Fin 5120) : colP x (ix2 p (0 : Fin 1)) = x (ix1 p) :=
  congrArg x (funext fun a => match a with | ⟨0, _⟩ => rfl)
theorem colR_at (x : IVec S10x512 32) (s : Fin 10) (r : Fin 512) : colR x (ix3 s r (0 : Fin 1)) = x (ix2 s r) :=
  congrArg x (funext fun a => match a with | ⟨0, _⟩ => rfl | ⟨1, _⟩ => rfl)
theorem besideP_at0 (a b : IVec S5120x1 32) (p : Fin 5120) : besideP a b (ix2 p (0 : Fin 2)) = a (ix2 p (0 : Fin 1)) := by
  pointwise [besideP]
theorem besideP_at1 (a b : IVec S5120x1 32) (p : Fin 5120) : besideP a b (ix2 p (1 : Fin 2)) = b (ix2 p (0 : Fin 1)) := by
  pointwise [besideP]
theorem besideR_at0 (a b : IVec S10x512x1 32) (s : Fin 10) (r : Fin 512) : besideR a b (ix3 s r (0 : Fin 2)) = a (ix3 s r (0 : Fin 1)) := by
  pointwise [besideR]
theorem besideR_at1 (a b : IVec S10x512x1 32) (s : Fin 10) (r : Fin 512) : besideR a b (ix3 s r (1 : Fin 2)) = b (ix3 s r (0 : Fin 1)) := by
  pointwise [besideR]

/-- A bit as a number. -/
theorem ext_word (b : BitVec 1) (P : Prop) [Decidable P] (h : b = if P then 1#1 else 0#1) : b.setWidth 32 = BitVec.ofNat 32 (if P then 1 else 0) := by
  rw [h]; split <;> rfl

/-! ## From the rows to the expert order -/

section
variable {C} (hC : Good C) (s : Fin 10) (r : Fin 512)
include hC

theorem valid_at : valid C (ix2 s r) = if r.val < R C s 4 then 1#1 else 0#1 := by
  have h1 : valid C (ix2 s r) = IntOp.cmpi .slt (BitVec.ofNat 32 r.val) (rows C (ix1 s)) :=
    congrArg (IntOp.cmpi .slt (BitVec.ofNat 32 r.val)) (congrArg (rows C) (funext fun a => match a with | ⟨0, _⟩ => rfl))
  have := R_le hC s 4 le_rfl
  rw [h1, rows_at C hC, slt_word _ _ (by omega) (by omega)]

theorem beforeR_at (k : Fin 4) : beforeR C (ix3 s r k) = if R C s (k + 1) ≤ r.val then 1#1 else 0#1 := by
  have h1 : beforeR C (ix3 s r k) = IntOp.cmpi .sle (rend C (ix2 s k)) (BitVec.ofNat 32 r.val) :=
    congrArg (IntOp.cmpi .sle · (BitVec.ofNat 32 r.val)) (congrArg (rend C) (funext fun a => match a with | ⟨0, _⟩ => rfl | ⟨1, _⟩ => rfl))
  have := R_le hC s (k.val + 1) (by omega)
  rw [h1, rend_at, sle_word _ _ (by omega) (by omega)]

variable (e : Fin 4) (h0 : R C s e ≤ r.val) (h1 : r.val < R C s (e + 1))
include h0 h1

theorem re_at : re C (ix2 s r) = BitVec.ofNat 32 e.val := by
  have hc := count_ends (cnat C s) r.val e.val 4 e.isLt h0 h1
  have h := reduce_at (extui 32 (beforeR C) natLt_1_32) reducesTo_S10x512x4_S10x512_d2 h_S_ (ix2 s r) 4 (fun k => ix3 s r k)
    (fun k => funext fun a => match a with | ⟨0, _⟩ => rfl | ⟨1, _⟩ => rfl)
    (fun i hi => ⟨i 2, by
      have h0 : i 0 = s := congrFun hi 0
      have h1 : i 1 = r := congrFun hi 1
      rw [eq_ix3 i, ← h0, ← h1]; rfl⟩)
    (fun a b h => congrFun h 2) (fun j => if R C s (j + 1) ≤ r.val then 1 else 0)
    (fun k => ext_word _ _ (beforeR_at hC s r k)) (by
      show pre (fun j => if pre (cnat C s) (j + 1) ≤ r.val then 1 else 0) 4 < _
      rw [hc]; omega)
  refine (congrArg (IntOp.minsi · (BitVec.ofNat 32 3)) (h.trans (congrArg (BitVec.ofNat 32) hc))).trans ?_
  rw [min_word _ _ (by omega) (by decide), Nat.min_eq_left (by omega)]

theorem atR_at (T : IVec S10x4 32) : atR C T (ix2 s r) = T (ix2 s e) := by
  refine take_pairsR T _ s r s e ?_ ?_
  · refine (besideR_at0 _ _ s r).trans ((colR_at _ s r).trans ?_)
    have h2 : rs (ix2 s r) = wrapS 10#32 (broadcastInDim S10x1 ![0] bcast_S10_S10x1_0 (iotaInDim S10 32 0)) (ix2 s (0 : Fin 1)) :=
      congrArg (wrapS 10#32 _) (funext fun a => match a with | ⟨0, _⟩ => rfl | ⟨1, _⟩ => rfl)
    rw [h2]
    exact wrapS_at _ _ s s.val (by omega) rfl
  · refine (besideR_at1 _ _ s r).trans ((colR_at _ s r).trans ?_)
    exact wrapR_at _ _ s r e.val (by omega) (re_at hC s r e h0 h1)

theorem place_lt : G C e + Q C s e + (r.val - R C s e) < G C (e + 1) := by
  have h2 := R_succ C s e
  have h3 := Q_succ C s e
  have h4 : Q C (s + 1) e ≤ T C e := pre_mono _ (by omega)
  have h5 := G_succ C e
  omega

theorem dest_at : dest C (ix2 s r) = BitVec.ofNat 32 (G C e + Q C s e + (r.val - R C s e)) := by
  have hl := place_lt hC s r e h0 h1
  have hg := G_le hC (e.val + 1) (by omega)
  have a1 := take_list (gbeg C) (colR (wrapR 4#32 (re C))) s r e ((colR_at _ s r).trans (wrapR_at _ _ s r e.val (by omega) (re_at hC s r e h0 h1)))
  have a2 := (atR_at hC s r e h0 h1 (qbeg C)).trans (qbeg_at C s e)
  have a3 := (atR_at hC s r e h0 h1 (rbeg C)).trans (rbeg_at C s e)
  have hd : dest0 C (ix2 s r) = BitVec.ofNat 32 (G C e + Q C s e + (r.val - R C s e)) := by
    refine (congrArg₂ IntOp.addi (congrArg₂ IntOp.addi (a1.trans (gbeg_at C hC e)) a2) (congrArg (IntOp.subi (BitVec.ofNat 32 r.val)) a3)).trans ?_
    rw [add_word, sub_word _ _ h0, add_word]
  refine (congrArg (IntOp.minsi · (BitVec.ofNat 32 5119)) hd).trans ?_
  rw [min_word _ _ (by omega) (by decide), Nat.min_eq_left (by omega)]

end

/-! ## From the expert order to the rows -/

section
variable {C} (hC : Good C) (p : Fin 5120)
include hC

theorem beforeP_at (k : Fin 4) : beforeP C (ix2 p k) = if G C (k + 1) ≤ p.val then 1#1 else 0#1 := by
  have h1 : beforeP C (ix2 p k) = IntOp.cmpi .sle (gend C (ix1 k)) (BitVec.ofNat 32 p.val) :=
    congrArg (IntOp.cmpi .sle · (BitVec.ofNat 32 p.val)) (congrArg (gend C) (funext fun a => match a with | ⟨0, _⟩ => rfl))
  have := G_le hC (k.val + 1) (by omega)
  rw [h1, gend_at C hC, sle_word _ _ (by omega) (by omega)]

theorem mask_at (k : Fin 4) (h : S4.Slices ![k.val] S1) : mask C k.val h (ix1 p) = if G C k ≤ p.val ∧ p.val < G C (k + 1) then 1#1 else 0#1 := by
  have h1 : mask C k.val h (ix1 p) = IntOp.andi (IntOp.cmpi .sle (gbeg C (ix1 k)) (BitVec.ofNat 32 p.val)) (IntOp.cmpi .slt (BitVec.ofNat 32 p.val) (gend C (ix1 k))) :=
    congrArg₂ IntOp.andi (congrArg (IntOp.cmpi .sle · (BitVec.ofNat 32 p.val)) (congrArg (gbeg C) (funext fun a => match a with | ⟨0, _⟩ => Fin.ext (congrArg (k.val + ·) (Nat.lt_one_iff.1 (Fin.isLt _))))))
      (congrArg (IntOp.cmpi .slt (BitVec.ofNat 32 p.val)) (congrArg (gend C) (funext fun a => match a with | ⟨0, _⟩ => Fin.ext (congrArg (k.val + ·) (Nat.lt_one_iff.1 (Fin.isLt _))))))
  have h2 := G_le hC (k.val + 1) (by omega)
  have h3 := G_le hC k.val (by omega)
  rw [h1, gbeg_at C hC, gend_at C hC, sle_word _ _ (by omega) (by omega), slt_word _ _ (by omega) (by omega)]
  by_cases a : G C k ≤ p.val <;> by_cases b : p.val < G C (k + 1) <;> simp [a, b, IntOp.andi]

variable (e : Fin 4) (h0 : G C e ≤ p.val) (h1 : p.val < G C (e + 1))
include h0 h1

theorem mask_own (k : Fin 4) (h : S4.Slices ![k.val] S1) : mask C k.val h (ix1 p) = if k = e then 1#1 else 0#1 := by
  rw [mask_at hC p k h]
  refine if_congr ⟨fun hk => Fin.ext (seg_unique (T C) p.val k.val e.val hk ⟨h0, h1⟩), fun hk => ?_⟩ rfl rfl
  subst hk
  exact ⟨h0, h1⟩

theorem pe_at : pe C (ix1 p) = BitVec.ofNat 32 e.val := by
  have hc := count_ends (T C) p.val e.val 4 e.isLt h0 h1
  have h := reduce_at (extui 32 (beforeP C) natLt_1_32) reducesTo_S5120x4_S5120_d1 h_S_ (ix1 p) 4 (fun k => ix2 p k)
    (fun k => funext fun a => match a with | ⟨0, _⟩ => rfl)
    (fun i hi => ⟨i 1, by
      have h0 : i 0 = p := congrFun hi 0
      rw [eq_ix2 i, ← h0]; rfl⟩)
    (fun a b h => congrFun h 1) (fun j => if G C (j + 1) ≤ p.val then 1 else 0)
    (fun k => ext_word _ _ (beforeP_at hC p k)) (by
      show pre (fun j => if pre (T C) (j + 1) ≤ p.val then 1 else 0) 4 < _
      rw [hc]; omega)
  refine (congrArg (IntOp.minsi · (BitVec.ofNat 32 3)) (h.trans (congrArg (BitVec.ofNat 32) hc))).trans ?_
  rw [min_word _ _ (by omega) (by decide), Nat.min_eq_left (by omega)]

theorem expert_at : colP (wrapP 4#32 (pe C)) (ix2 p (0 : Fin 1)) = BitVec.ofNat 32 e.val :=
  (colP_at _ p).trans (wrapP_at _ _ p e.val (by omega) (pe_at hC p e h0 h1))

theorem po_at : po C (ix1 p) = BitVec.ofNat 32 (p.val - G C e) := by
  have a1 := Routing.gather_take1 gather_S4_S5120x1_S5120_n_0_n_n_0_1_1 rfl rfl rfl rfl (gbeg C) (colP (wrapP 4#32 (pe C))) p e
    (expert_at hC p e h0 h1) (by decide)
  refine (congrArg (IntOp.subi (BitVec.ofNat 32 p.val)) (a1.trans (gbeg_at C hC e))).trans ?_
  rw [sub_word _ _ h0]

theorem beforeQ_at (k : Fin 10) : beforeQ C (ix2 p k) = if Q C (k + 1) e ≤ p.val - G C e then 1#1 else 0#1 := by
  have a1 := take_cols (qend C) (colP (wrapP 4#32 (pe C))) k p e (expert_at hC p e h0 h1)
  have a2 : beforeQ C (ix2 p k) = IntOp.cmpi .sle
      (Host.gather gather_S10x4_S5120x1_S10x5120_0_1_n_n_1_1_101 (qend C) (colP (wrapP 4#32 (pe C))) (ix2 k p)) (po C (ix1 p)) :=
    congrArg₂ (IntOp.cmpi .sle) (congrArg (Host.gather gather_S10x4_S5120x1_S10x5120_0_1_n_n_1_1_101 (qend C) (colP (wrapP 4#32 (pe C))))
      (funext fun a => match a with | ⟨0, _⟩ => rfl | ⟨1, _⟩ => rfl)) (congrArg (po C) (funext fun a => match a with | ⟨0, _⟩ => rfl))
  have h3 := Q_le hC (k.val + 1) (by omega) e
  rw [a2, a1, qend_at, po_at hC p e h0 h1, sle_word _ _ (by omega) (by omega)]

variable (s : Fin 10) (k0 : Q C s e ≤ p.val - G C e) (k1 : p.val - G C e < Q C (s + 1) e)
include k0 k1

theorem ps_at : ps C (ix1 p) = BitVec.ofNat 32 s.val := by
  have hc := count_ends (fun s => cnat C s e) (p.val - G C e) s.val 10 s.isLt k0 k1
  have h := reduce_at (extui 32 (beforeQ C) natLt_1_32) reducesTo_S5120x10_S5120_d1 h_S_ (ix1 p) 10 (fun k => ix2 p k)
    (fun k => funext fun a => match a with | ⟨0, _⟩ => rfl)
    (fun i hi => ⟨i 1, by
      have h0 : i 0 = p := congrFun hi 0
      rw [eq_ix2 i, ← h0]; rfl⟩)
    (fun a b h => congrFun h 1) (fun j => if Q C (j + 1) e ≤ p.val - G C e then 1 else 0)
    (fun k => ext_word _ _ (beforeQ_at hC p e h0 h1 k)) (by
      show pre (fun j => if pre (fun s => cnat C s e) (j + 1) ≤ p.val - G C e then 1 else 0) 10 < _
      rw [hc]; omega)
  refine (congrArg (IntOp.minsi · (BitVec.ofNat 32 9)) (h.trans (congrArg (BitVec.ofNat 32) hc))).trans ?_
  rw [min_word _ _ (by omega) (by decide), Nat.min_eq_left (by omega)]

theorem atP_at (T : IVec S10x4 32) : atP C T (ix1 p) = T (ix2 s e) := by
  refine take_pairsP T _ p s e ?_ ?_
  · refine (besideP_at0 _ _ p).trans ((colP_at _ p).trans ?_)
    exact wrapP_at _ _ p s.val (by omega) (ps_at hC p e h0 h1 s k0 k1)
  · exact (besideP_at1 _ _ p).trans (expert_at hC p e h0 h1)

theorem psrc_at (hr : R C s e + (p.val - G C e - Q C s e) < 512) : psrc C (ix1 p) = BitVec.ofNat 32 (s.val * 512 + (R C s e + (p.val - G C e - Q C s e))) := by
  have a2 := (atP_at hC p e h0 h1 s k0 k1 (qbeg C)).trans (qbeg_at C s e)
  have a3 := (atP_at hC p e h0 h1 s k0 k1 (rbeg C)).trans (rbeg_at C s e)
  have hd : psrc0 C (ix1 p) = BitVec.ofNat 32 (s.val * 512 + (R C s e + (p.val - G C e - Q C s e))) := by
    refine (congrArg₂ IntOp.addi (congrArg₂ IntOp.addi (congrArg (IntOp.muli · (BitVec.ofNat 32 512)) (ps_at hC p e h0 h1 s k0 k1)) a3)
      (congrArg₂ IntOp.subi (po_at hC p e h0 h1) a2)).trans ?_
    rw [mul_word, add_word, sub_word _ _ k0, add_word, Nat.add_assoc]
  refine (congrArg (fun w => IntOp.minsi (BitVec.ofNat 32 5119) (IntOp.maxsi (BitVec.ofNat 32 0) w)) hd).trans ?_
  have hs := s.isLt
  show IntOp.minsi (BitVec.ofNat 32 5119) (IntOp.maxsi (BitVec.ofNat 32 0) (BitVec.ofNat 32 _)) = _
  rw [max_word _ _ (by decide) (by omega), Nat.max_eq_right (by omega), min_word _ _ (by decide) (by omega), Nat.min_eq_right (by omega)]

end

end Cert.ReferenceIdeal.Route
-- ==== Proof.RouteOut.lean ====
/- The reference's result read at an entry: a row an expert holds times that expert's weights, and zero at the other rows. -/
module

public import proofs.«01_k».proof.Proof.RouteAt
public import Idealize.ShloMosaic.Lib.KernelVsHost

@[expose] public section

set_option maxRecDepth 16384

noncomputable section

namespace Cert.ReferenceIdeal.Route

open Idealize.ShloMosaic Cert.Line
open Cert.ReferenceIdeal Cert.ReferenceIdeal.Gen

/-- A row of a source, as a row of the flat array. -/
def flat (s : Fin 10) (r : Fin 512) : Fin 5120 := ⟨s.val * 512 + r.val, by omega⟩

/-- The run of 128 numbers a column of the rows lies in. -/
def kb (q : Fin 16384) : Fin 128 := ⟨q.val / 128, by omega⟩
/-- The run of 128 numbers a column of the result lies in. -/
def nb (n : Fin 5632) : Fin 44 := ⟨n.val / 128, by omega⟩

theorem xd_at (X : FVec Ideal S10x512x16384 .bf16) (XS : FVec Ideal S10x512x128 .f32) (s : Fin 10) (r : Fin 512) (q : Fin 16384) :
    xd X XS (ix2 (flat s r) q) = (X (ix3 s r q) * XS (ix3 s r (kb q)) : EReal) := by
  pointwise [xd]
  refine congrArg₂ (fun a b : EReal => a * b) (congrArg X (funext fun a => Fin.ext ?_)) (congrArg XS (funext fun a => Fin.ext ?_))
  · match a with
    | ⟨0, _⟩ => simp [ix3, flat]; try omega
    | ⟨1, _⟩ => simp [ix3, flat]; try omega
    | ⟨2, _⟩ => simp [ix3, flat]; try omega
  · match a with
    | ⟨0, _⟩ => simp [ix3, flat, kb]; try omega
    | ⟨1, _⟩ => simp [ix3, flat, kb]; try omega
    | ⟨2, _⟩ => simp [ix3, flat, kb]; try omega

theorem wd_at (W : FVec Ideal S4x16384x5632 .bf16) (WS : FVec Ideal S4x128x44 .f32) (e : Fin 4) (q : Fin 16384) (n : Fin 5632) :
    wd W WS (ix3 e q n) = (W (ix3 e q n) * WS (ix3 e (kb q) (nb n)) : EReal) := by
  pointwise [wd]
  refine congrArg₂ (fun a b : EReal => a * b) (congrArg W (funext fun a => Fin.ext ?_)) (congrArg WS (funext fun a => Fin.ext ?_))
  · match a with
    | ⟨0, _⟩ => simp [ix3]; try omega
    | ⟨1, _⟩ => simp [ix3]; try omega
    | ⟨2, _⟩ => simp [ix3]; try omega
  · match a with
    | ⟨0, _⟩ => simp [ix3, kb, nb]; try omega
    | ⟨1, _⟩ => simp [ix3, kb, nb]; try omega
    | ⟨2, _⟩ => simp [ix3, kb, nb]; try omega

theorem xs_at (D : FVec Ideal S5120x16384 .bf16) (C : IVec S10x4 32) (p : Fin 5120) (q : Fin 16384) (b : Fin 5120) (hb : psrc C (ix1 p) = BitVec.ofNat 32 b.val) :
    xs D C (ix2 p q) = D (ix2 b q) :=
  Routing.gather_row gather_S5120x16384_S5120x1_S5120x16384_1_0_n_n_0_1_116384 rfl rfl rfl rfl rfl D _ p q b
    ((colP_at _ p).trans (wrapP_at _ _ p b.val (by omega) hb)) (by decide)

theorem own_at (Y : FVec Ideal S5120x16384 .bf16) (C : IVec S10x4 32) (k : ℕ) (h : S4.Slices ![k] S1) (p : Fin 5120) (q : Fin 16384) :
    own Y C k h (ix2 p q) = Scalar.select (mask C k h (ix1 p)) (Y (ix2 p q)) (0 : EReal) := by
  have h0 : (FloatOps.sitofp .bf16 (0#32) : Ideal .bf16) = (0 : EReal) := sitofp_zero
  exact congrArg₂ (fun (b : BitVec 1) (z : EReal) => Scalar.select b (Y (ix2 p q) : EReal) z)
    (congrArg (mask C k h) (funext fun a => match a with | ⟨0, _⟩ => rfl)) h0

theorem part_at (Y : FVec Ideal S5120x16384 .bf16) (E : FVec Ideal S4x16384x5632 .bf16) (C : IVec S10x4 32) (k : Fin 4) (h : S4.Slices ![k.val] S1)
    (h' : S4x16384x5632.Slices ![k.val, 0, 0] S1x16384x5632) (p : Fin 5120) (n : Fin 5632) :
    part Y E C k.val h h' (ix2 p n) = ∑ q : Fin 16384, (own Y C k.val h (ix2 p q) * E (ix3 k q n) : EReal) := by
  pointwise [part]

section
variable {C : IVec S10x4 32} (hC : Good C) (p : Fin 5120) (e : Fin 4) (h0 : G C e ≤ p.val) (h1 : p.val < G C (e + 1))
  (Y : FVec Ideal S5120x16384 .bf16) (E : FVec Ideal S4x16384x5632 .bf16) (n : Fin 5632)
include hC h0 h1
theorem part_own (k : Fin 4) (h : S4.Slices ![k.val] S1) (h' : S4x16384x5632.Slices ![k.val, 0, 0] S1x16384x5632) :
    part Y E C k.val h h' (ix2 p n) = if k = e then ∑ q : Fin 16384, (Y (ix2 p q) * E (ix3 e q n) : EReal) else 0 := by
  rw [part_at]
  have hm := mask_own hC p e h0 h1 k h
  by_cases hk : k = e
  · rw [if_pos hk] at hm ⊢
    refine Finset.sum_congr rfl fun q _ => ?_
    rw [own_at, hm, hk]; rfl
  · rw [if_neg hk] at hm ⊢
    refine Finset.sum_eq_zero fun q _ => ?_
    rw [own_at, hm]
    exact zero_mul (E (ix3 k q n) : EReal)

theorem prods_at : prods Y E C (ix2 p n) = ∑ q : Fin 16384, (Y (ix2 p q) * E (ix3 e q n) : EReal) := by
  have hz : (FloatOps.ofBits .f32 0x00000000#32 : Ideal .f32) = (0 : EReal) := Ideal.ofBits_zero_f32
  have hp := part_own hC p e h0 h1 Y E n
  refine (congrArg₂ (fun a b : EReal => a + b) (congrArg₂ (fun a b : EReal => a + b) (congrArg₂ (fun a b : EReal => a + b)
    (congrArg₂ (fun a b : EReal => a + b) hz (hp 0 _ _)) (hp 1 _ _)) (hp 2 _ _)) (hp 3 _ _)).trans ?_
  fin_cases e <;> simp
end

theorem back_at (O : FVec Ideal S5120x5632 .f32) (C : IVec S10x4 32) (s : Fin 10) (r : Fin 512) (n : Fin 5632) :
    back O C (ix2 (flat s r) n) = Scalar.select (valid C (ix2 s r))
      (Host.gather gather_S5120x5632_S5120x1_S5120x5632_1_0_n_n_0_1_15632 O
        (colP (wrapP 5120#32 (shapeCast S5120 (dest C) shapeCasts_S10x512_S5120))) (ix2 (flat s r) n)) (0 : EReal) := by
  have hz : (FloatOps.ofBits .f32 0x00000000#32 : Ideal .f32) = (0 : EReal) := Ideal.ofBits_zero_f32
  have hv : broadcastInDim S5120x5632 ![0, 1] bcast_S5120x1_S5120x5632_0_1 (shapeCast S5120x1 (valid C) shapeCasts_S10x512_S5120x1) (ix2 (flat s r) n)
      = valid C (ix2 s r) := by
    pointwise []
    refine congrArg (valid C) (funext fun a => Fin.ext ?_)
    match a with
    | ⟨0, _⟩ => simp [ix2, flat]; try omega
    | ⟨1, _⟩ => simp [ix2, flat]; try omega
  exact congrArg₂ (fun (b : BitVec 1) (z : EReal) => Scalar.select b (Host.gather gather_S5120x5632_S5120x1_S5120x5632_1_0_n_n_0_1_15632 O
        (colP (wrapP 5120#32 (shapeCast S5120 (dest C) shapeCasts_S10x512_S5120))) (ix2 (flat s r) n) : EReal) z) hv hz

theorem out_back (X : FVec Ideal S10x512x16384 .bf16) (XS : FVec Ideal S10x512x128 .f32) (W : FVec Ideal S4x16384x5632 .bf16) (WS : FVec Ideal S4x128x44 .f32)
    (C : IVec S10x4 32) (s : Fin 10) (r : Fin 512) (n : Fin 5632) :
    out X XS W WS C (ix3 s r n) = (back (prods (xs (xd X XS) C) (wd W WS) C) C (ix2 (flat s r) n) : EReal) := by
  pointwise [out]
  refine congrArg (back (prods (xs (xd X XS) C) (wd W WS) C) C) (funext fun a => Fin.ext ?_)
  match a with
  | ⟨0, _⟩ => simp [ix2, flat]; try omega
  | ⟨1, _⟩ => simp [ix2, flat]; try omega

/-- Equal arguments, equal results. -/
theorem out_congr {X X' : FVec Ideal S10x512x16384 .bf16} {XS XS' : FVec Ideal S10x512x128 .f32} {W W' : FVec Ideal S4x16384x5632 .bf16}
    {WS WS' : FVec Ideal S4x128x44 .f32} {C C' : IVec S10x4 32} (h0 : X = X') (h1 : XS = XS') (h2 : W = W') (h3 : WS = WS') (h4 : C = C') :
    out X XS W WS C = out X' XS' W' WS' C' := by
  subst h0 h1 h2 h3 h4; rfl

section
variable (X : FVec Ideal S10x512x16384 .bf16) (XS : FVec Ideal S10x512x128 .f32) (W : FVec Ideal S4x16384x5632 .bf16) (WS : FVec Ideal S4x128x44 .f32)
  {C : IVec S10x4 32} (hC : Good C) (s : Fin 10) (r : Fin 512) (n : Fin 5632)
include hC

/-- A row an expert holds. -/
theorem out_held (e : Fin 4) (h0 : R C s e ≤ r.val) (h1 : r.val < R C s (e + 1)) :
    out X XS W WS C (ix3 s r n)
      = ∑ q : Fin 16384, ((X (ix3 s r q) * XS (ix3 s r (kb q))) * (W (ix3 e q n) * WS (ix3 e (kb q) (nb n))) : EReal) := by
  have hl := place_lt hC s r e h0 h1
  have hg := G_le hC (e.val + 1) (by omega)
  have hd := dest_at hC s r e h0 h1
  have h2 := R_succ C s e
  have h3 := Q_succ C s e
  have h4 : R C s (e.val + 1) ≤ R C s 4 := pre_mono _ (by omega)
  obtain ⟨p, hp⟩ : ∃ p : Fin 5120, p.val = G C e + Q C s e + (r.val - R C s e) := ⟨⟨_, by omega⟩, rfl⟩
  rw [← hp] at hd hl
  have g0 : G C e ≤ p.val := by omega
  have hs := psrc_at hC p e g0 hl s (by omega) (by omega) (by omega)
  have hsrc : psrc C (ix1 p) = BitVec.ofNat 32 (flat s r).val := hs.trans (congrArg _ (by show _ = s.val * 512 + r.val; omega))
  have hv : valid C (ix2 s r) = 1#1 := by rw [valid_at hC, if_pos (by omega)]
  have hdf : shapeCast S5120 (dest C) shapeCasts_S10x512_S5120 (ix1 (flat s r)) = dest C (ix2 s r) := by
    pointwise []
    refine congrArg (dest C) (funext fun a => Fin.ext ?_)
    match a with
    | ⟨0, _⟩ => simp [ix2, flat]; try omega
    | ⟨1, _⟩ => simp [ix2, flat]; try omega
  rw [out_back, back_at, hv]
  have hi : colP (wrapP 5120#32 (shapeCast S5120 (dest C) shapeCasts_S10x512_S5120)) (ix2 (flat s r) (0 : Fin 1)) = BitVec.ofNat 32 p.val :=
    (colP_at _ _).trans (wrapP_at _ _ _ p.val (by omega) (hdf.trans hd))
  refine (WordCmp.select_of_eq_one rfl _ _).trans ?_
  refine (Routing.gather_row gather_S5120x5632_S5120x1_S5120x5632_1_0_n_n_0_1_15632 rfl rfl rfl rfl rfl (prods (xs (xd X XS) C) (wd W WS) C) _ (flat s r) n p
    hi (by decide)).trans ?_
  refine (prods_at hC p e g0 hl _ _ n).trans ?_
  refine Finset.sum_congr rfl fun q _ => ?_
  rw [xs_at _ C p q (flat s r) hsrc, xd_at, wd_at]

/-- A row no expert holds. -/
theorem out_free (h : R C s 4 ≤ r.val) : out X XS W WS C (ix3 s r n) = (0 : EReal) := by
  have hv : valid C (ix2 s r) = 0#1 := by rw [valid_at hC, if_neg (by omega)]
  rw [out_back, back_at, hv]; rfl
end

end Cert.ReferenceIdeal.Route
-- ==== Proof.Meet.lean ====
/- The kernel's result and the reference's are the same array: a row an expert holds times that expert's weights, and zero at
   the other rows. -/
module

public import proofs.«01_k».proof.Proof.KernelValue
public import proofs.«01_k».proof.Proof.RouteOut

@[expose] public section

set_option maxRecDepth 16384

noncomputable section

namespace Cert.KernelIdeal.Blocks

open Idealize.ShloMosaic Cert.Line
open Cert.KernelIdeal Cert.KernelIdeal.Tables Cert.KernelIdeal.Payload
open Cert.ReferenceIdeal.Route (cnat cnt_at Good R R_succ R_le rstop_at rbeg_at out out_held out_free nb)

theorem stop_at (C : IVec S10x4 32) (s : Fin 10) (e : Fin 4) : stop C (ix2 s e) = BitVec.ofNat 32 (R C s (e + 1)) := rstop_at C s e
theorem start_at (C : IVec S10x4 32) (s : Fin 10) (e : Fin 4) : start C (ix2 s e) = BitVec.ofNat 32 (R C s e) := rbeg_at C s e

theorem mine_at (C : IVec S10x4 32) (hC : Good C) (s : Fin 10) (e : Fin 4) (r : Fin 512) :
    mine (start C (ix2 s e)) (stop C (ix2 s e)) r = if R C s e ≤ r.val ∧ r.val < R C s (e + 1) then 1#1 else 0#1 := by
  have h2 := R_le hC s (e.val + 1) (by omega)
  have h3 := R_le hC s e.val (by omega)
  rw [start_at, stop_at]
  show IntOp.andi (IntOp.cmpi .sle (BitVec.ofNat 32 (R C s e)) (BitVec.ofNat 32 r.val)) (IntOp.cmpi .slt (BitVec.ofNat 32 r.val) (BitVec.ofNat 32 (R C s (e + 1)))) = _
  rw [sle_word _ _ (by omega) (by omega), slt_word _ _ (by omega) (by omega)]
  by_cases a : R C s e ≤ r.val <;> by_cases b : r.val < R C s (e + 1) <;> simp [a, b, IntOp.andi]

theorem has_at (C : IVec S10x4 32) (hC : Good C) (s : Fin 10) (e : Fin 4) (h : 0 < cnat C s e) : has C s e := by
  have h2 := R_le hC s (e.val + 1) (by omega)
  have h3 := R_succ C s e
  show IntOp.cmpi .slt (BitVec.ofNat 32 0) (C (ix2 s e)) = 1#1
  have h4 : C (ix2 s e) = BitVec.ofNat 32 (cnat C s e) := cnt_at C s e
  rw [h4, slt_word _ _ (by decide) (by omega), if_pos h]

variable (m : (ℓ : Loc nD τ sig) → Buf (Elt Ideal) ℓ) (hC : Good (aC m)) (s : Fin 10) (r : Fin 512) (n : Fin 5632)
include hC

/-- An expert that does not hold the row adds nothing. -/
theorem part_other (e : Fin 4) (k : Fin 8) (h : ¬ (R (aC m) s e ≤ r.val ∧ r.val < R (aC m) s (e + 1))) : part m s e k r n = 0 := by
  unfold part
  split
  · refine Finset.sum_eq_zero fun q _ => ?_
    unfold cell
    rw [mine_at (aC m) hC, if_neg h, WordCmp.select_of_eq_zero rfl, mul_zero, zero_mul]
  · rfl

/-- The expert that holds it adds the row's product with its weights. -/
theorem part_held (e : Fin 4) (h : R (aC m) s e ≤ r.val ∧ r.val < R (aC m) s (e + 1)) :
    ∑ k : Fin 8, part m s e k r n
      = ∑ q : Fin 16384, (aX m (ix3 s r q) * aXS m (ix3 s r (Cert.ReferenceIdeal.Route.kb q)))
          * (aW m (ix3 e q n) * aWS m (ix3 e (Cert.ReferenceIdeal.Route.kb q) (nb n))) := by
  have h3 := R_succ (aC m) s e
  have hh : has (aC m) s e := has_at (aC m) hC s e (by omega)
  rw [Fin.sum_univ_tiles 8 2048 rfl]
  refine Finset.sum_congr rfl fun k _ => ?_
  unfold part
  rw [if_pos hh]
  refine Finset.sum_congr rfl fun q _ => ?_
  unfold cell
  rw [mine_at (aC m) hC, if_pos h, WordCmp.select_of_eq_one rfl]
  rfl

/-- The kernel's result is the reference's. -/
theorem result_eq : result m = out (F := Ideal) (aX m) (aXS m) (aW m) (aWS m) (aC m) := by
  funext j
  obtain ⟨s, r, n, rfl⟩ : ∃ (s : Fin 10) (r : Fin 512) (n : Fin 5632), j = ix3 s r n := ⟨_, _, _, eq_ix3 _⟩
  show ∑ e : Fin 4, ∑ k : Fin 8, part m s e k r n = _
  by_cases hr : r.val < R (aC m) s 4
  · obtain ⟨e, he, h⟩ := exists_seg (cnat (aC m) s) r.val 4 hr
    rw [Finset.sum_eq_single (⟨e, he⟩ : Fin 4)
      (fun e' _ hne => Finset.sum_eq_zero fun k _ => part_other m hC s r n e' k fun h' => hne (Fin.ext (seg_unique _ _ _ _ h' h)))
      (fun hn => absurd (Finset.mem_univ _) hn), part_held m hC s r n ⟨e, he⟩ h]
    exact (out_held (aX m) (aXS m) (aW m) (aWS m) hC s r n ⟨e, he⟩ h.1 h.2).symm
  · refine Eq.trans (Finset.sum_eq_zero fun e _ => Finset.sum_eq_zero fun k _ => part_other m hC s r n e k fun h' => hr ?_)
      (out_free (aX m) (aXS m) (aW m) (aWS m) hC s r n (by omega)).symm
    exact h'.2.trans_le (pre_mono _ (by omega))

end Cert.KernelIdeal.Blocks
-- ==== Proof.RefValue.lean ====
/- What the reference's run leaves in its result: the widened arrays are the arguments, and the host's line takes them to
   `Route.out`. -/
module

public import proofs.«01_k».proof.Proof.RouteOut

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

theorem out2_eq (x0 : Vec Ideal S10x512x16384 .fp8e4m3) (x1 : Vec Ideal S4x16384x5632 .fp8e4m3) (y : S10x512x16384.Idx) :
    out0_2 (F := Ideal) x0 x1 y = (x0 y : EReal) := by
  unfold out0_2
  rw [View.canon_cons_unit_lit _ _ _ (by decide), View.ld_unit_lit _ _ (by decide)]
  rfl
theorem out3_eq (x0 : Vec Ideal S10x512x16384 .fp8e4m3) (x1 : Vec Ideal S4x16384x5632 .fp8e4m3) (y : S4x16384x5632.Idx) :
    out0_3 (F := Ideal) x0 x1 y = (x1 y : EReal) := by
  unfold out0_3
  rw [View.canon_cons_unit_lit _ _ _ (by decide), View.ld_unit_lit _ _ (by decide)]
  rfl

/-- The call leaves the rows as they are. -/
theorem rows_eq (c : Dev nD) : (dats m 0 c).arrAt 2 cfg0.N = (fun y => (m ((c.tc : Thread nD τ).loc main_arg0) y : EReal)) := by
  refine (dats m 0 c).arrAt_eq_of_covers 2 _ (by decide +kernel) fun t hf y => ?_
  rw [after0_2]
  blk_simp
  refine (out2_eq _ _ _).trans ?_
  blk_simp [iblk]
  refine congrArg (m ((c.tc : Thread nD τ).loc main_arg0)) (funext fun a => Fin.ext ?_)
  rfl
/-- And the weights. -/
theorem weights_eq (c : Dev nD) : (dats m 0 c).arrAt 3 cfg0.N = (fun y => (m ((c.tc : Thread nD τ).loc main_arg2) y : EReal)) := by
  refine (dats m 0 c).arrAt_eq_of_covers 3 _ (by decide +kernel) fun t hf y => ?_
  rw [after0_3]
  blk_simp
  refine (out3_eq _ _ _).trans ?_
  blk_simp [iblk]
  refine congrArg (m ((c.tc : Thread nD τ).loc main_arg2)) (funext fun a => Fin.ext ?_)
  rfl

theorem arr_injective : Function.Injective (Pipeline.arrRef spec0) := by decide

/-- What the line of host operations leaves in the result. -/
theorem result_eq (c : Dev nD) :
    Pipeline.afterTail₀ cfgs (dats m) 0 (V0 m) [hostOps1, hostOps1_1, hostOps1_2, hostOps1_3, hostOps1_4, hostOps1_5, hostOps1_6, hostOps1_7, hostOps1_8,
      hostOps1_9, hostOps1_10, hostOps1_11, hostOps1_12, hostOps1_13, hostOps1_14, hostOps1_15, hostOps1_16, hostOps1_17, hostOps1_18] c main_v231
      = Route.out (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  refine (Route.read _).trans ?_
  have e0 := (Pipeline.withArrays_arr spec0 arr_injective c (V0 m c) (fun w => (dats m 0 c).arrAt w cfg0.N) 2).trans (rows_eq m c)
  have e1 := (Pipeline.withArrays_of_ne spec0 c (V0 m c) (fun w => (dats m 0 c).arrAt w cfg0.N) main_arg1
    (by exact (by decide : ∀ w, Pipeline.arrRef spec0 w ≠ main_arg1))).trans (V_main_arg1 m c)
  have e2 := (Pipeline.withArrays_arr spec0 arr_injective c (V0 m c) (fun w => (dats m 0 c).arrAt w cfg0.N) 3).trans (weights_eq m c)
  have e3 := (Pipeline.withArrays_of_ne spec0 c (V0 m c) (fun w => (dats m 0 c).arrAt w cfg0.N) main_arg3
    (by exact (by decide : ∀ w, Pipeline.arrRef spec0 w ≠ main_arg3))).trans (V_main_arg3 m c)
  have e4 := (Pipeline.withArrays_of_ne spec0 c (V0 m c) (fun w => (dats m 0 c).arrAt w cfg0.N) main_arg4
    (by exact (by decide : ∀ w, Pipeline.arrRef spec0 w ≠ main_arg4))).trans (V_main_arg4 m c)
  exact Route.out_congr e0 e1 e2 e3 e4

/-- The reference's run, its result read. -/
theorem run : θ_run defs (onTc (τ := τ) (main (F := Ideal))) ⟨m, fun _ => 0, ρ⟩ (fun r => ∀ c : Dev nD,
      r.2.mem ((c.tc : Thread nD τ).loc main_v231) = Route.out (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) :=
  (θ_run defs _ _).mono (fun _ h c => ((h c).2 main_v231 (Pipeline.mem_restRefs_of main_v231 (by decide) (by decide))).trans (result_eq m c)) (run_main m ρ)

end Cert.ReferenceIdeal.Value
-- ==== Proof.Routed.lean ====
/- The precondition's own facts, and what it says: the counts are natural numbers that add up to 5120 at most. -/
module

public import proofs.«01_k».proof.Pre_routed
public import proofs.«01_k».proof.Proof.RouteAt

@[expose] public section

set_option maxRecDepth 16384

noncomputable section

namespace Cert.Routed

open Idealize.ShloMosaic Cert.Line
open Cert.ReferenceIdeal.Route (cnat cnt_at Good)

/-- The side conditions of the precondition's operations. -/
instance facts : Cert.Pre_routed.Facts where
  bcast_S_S10x4 := by decide
  reducesTo_S10x4_S_d0_1 := by decide
  h_S_ := by decide

/-- A sum over the entries of a table, a row at a time. -/
theorem pre_rows (f : ℕ → ℕ → ℕ) (n : ℕ) : pre (fun k => f (k / 4) (k % 4)) (n * 4) = pre (fun s => pre (f s) 4) n := by
  induction n with
  | zero => rfl
  | succ n ih =>
    rw [pre_succ, ← ih, show (n + 1) * 4 = n * 4 + 1 + 1 + 1 + 1 by omega, pre_succ, pre_succ, pre_succ, pre_succ]
    have d0 : n * 4 / 4 = n := by omega
    have d1 : (n * 4 + 1) / 4 = n := by omega
    have d2 : (n * 4 + 1 + 1) / 4 = n := by omega
    have d3 : (n * 4 + 1 + 1 + 1) / 4 = n := by omega
    have r0 : n * 4 % 4 = 0 := by omega
    have r1 : (n * 4 + 1) % 4 = 1 := by omega
    have r2 : (n * 4 + 1 + 1) % 4 = 2 := by omega
    have r3 : (n * 4 + 1 + 1 + 1) % 4 = 3 := by omega
    rw [d0, d1, d2, d3, r0, r1, r2, r3]
    show _ = _ + pre (f n) (0 + 1 + 1 + 1 + 1)
    rw [pre_succ, pre_succ, pre_succ, pre_succ, pre_zero]
    omega

theorem good {F : FTy → Type} [FloatOps F] (X : FVec F Cert.Pre_routed.S10x512x16384 .fp8e4m3) (XS : FVec F Cert.Pre_routed.S10x512x128 .f32)
    (W : FVec F Cert.Pre_routed.S4x16384x5632 .fp8e4m3) (WS : FVec F Cert.Pre_routed.S4x128x44 .f32) (C : IVec Cert.Pre_routed.S10x4 32)
    (h1 : (Cert.Pre_routed.fn (F := F) X XS W WS C).1 = fun _ => 1#1) (h2 : (Cert.Pre_routed.fn (F := F) X XS W WS C).2 = fun _ => 1#1) : Good C := by
  have hle : ∀ (s : Fin 10) (e : Fin 4), cnat C s e ≤ 5120 := fun s e => by
    have h : IntOp.andi (IntOp.cmpi .sge (C (ix2 s e)) 0#32) (IntOp.cmpi .sle (C (ix2 s e)) (BitVec.ofNat 32 5120)) = 1#1 := congrFun h1 (ix2 s e)
    have hc : cnat C s e = (C (ix2 s e)).toNat := by unfold cnat; rw [dif_pos ⟨s.isLt, e.isLt⟩]
    have hz : (0#32).toInt = 0 := by decide
    have hk : (BitVec.ofNat 32 5120).toInt = ((5120 : ℕ) : ℤ) := WordCmp.toInt_ofNat_of_lt (by decide)
    rw [WordCmp.cmpi_sge_eq, WordCmp.cmpi_sle_eq, hz, hk] at h
    have ha : 0 ≤ (C (ix2 s e)).toInt := by
      by_contra hn
      rw [decide_eq_false hn] at h
      exact absurd h (by cases decide ((C (ix2 s e)).toInt ≤ ((5120 : ℕ) : ℤ)) <;> decide)
    have hb : (C (ix2 s e)).toInt ≤ ((5120 : ℕ) : ℤ) := by
      by_contra hn
      rw [decide_eq_false hn] at h
      exact absurd h (by cases decide (0 ≤ (C (ix2 s e)).toInt) <;> decide)
    rw [hc]
    have ht : (C (ix2 s e)).toInt = ((C (ix2 s e)).toNat : ℤ) :=
      WordCmp.toInt_eq_toNat_of_lt_half ((WordCmp.toInt_nonneg_iff_lt_half _).1 ha)
    omega
  have hp := pre_rows (cnat C) 10
  have hsmall : pre (fun k => cnat C (k / 4) (k % 4)) 40 < 2 ^ 31 := by
    have : ∀ n ≤ 40, pre (fun k => cnat C (k / 4) (k % 4)) n ≤ n * 5120 := fun n hn => by
      induction n with
      | zero => rw [pre_zero]
      | succ n ih =>
        have := hle ⟨n / 4, by omega⟩ ⟨n % 4, by omega⟩
        have := ih (by omega)
        rw [pre_succ]
        dsimp only at *
        omega
    have := this 40 le_rfl
    omega
  have hs := reduce_at C (Cert.Pre_routed.Facts.reducesTo_S10x4_S_d0_1) Cert.Pre_routed.Facts.h_S_ ix0 40
    (fun k => ix2 (⟨k.val / 4, by omega⟩ : Fin 10) (⟨k.val % 4, by omega⟩ : Fin 4)) (fun k => funext fun a => a.elim0)
    (fun i _ => by
      have b0 : (i 0).val < 10 := (i 0).isLt
      have b1 : (i 1).val < 4 := (i 1).isLt
      refine ⟨⟨(i 0).val * 4 + (i 1).val, by omega⟩, ?_⟩
      refine Eq.trans ?_ (eq_ix2 i).symm
      exact congrArg₂ ix2 (Fin.ext (by show ((i 0).val * 4 + (i 1).val) / 4 = (i 0).val; omega)) (Fin.ext (by show ((i 0).val * 4 + (i 1).val) % 4 = (i 1).val; omega)))
    (fun a b h => by
      have g0 : a.val / 4 = b.val / 4 := congrArg Fin.val (congrFun h 0)
      have g1 : a.val % 4 = b.val % 4 := congrArg Fin.val (congrFun h 1)
      exact Fin.ext (by omega))
    (fun k => cnat C (k / 4) (k % 4)) (fun k => cnt_at C ⟨k.val / 4, by omega⟩ ⟨k.val % 4, by omega⟩) (by omega)
  have h : IntOp.cmpi .sle (Host.reduce IntOp.addi C (constantI Cert.Pre_routed.S_ 32 0#32) Cert.Pre_routed.Facts.reducesTo_S10x4_S_d0_1 Cert.Pre_routed.Facts.h_S_ ix0)
      (BitVec.ofNat 32 5120) = 1#1 := congrFun h2 ix0
  rw [hs, sle_word _ _ hsmall (by decide)] at h
  unfold Good
  rw [← hp]
  by_contra hn
  rw [if_neg hn] at h
  exact absurd h (by decide)

end Cert.Routed
-- ==== Proof.lean ====
module

public import proofs.«01_k».proof.Defs
public import proofs.«01_k».proof.Proof.Gen.Kernel
public import proofs.«01_k».proof.Proof.KernelFrame.Frame
public import proofs.«01_k».proof.Proof.KernelOk
public import proofs.«01_k».proof.Proof.Gen.KernelIdeal
public import proofs.«01_k».proof.Proof.IdealFrame.Frame
public import proofs.«01_k».proof.Proof.Tables
public import proofs.«01_k».proof.Proof.Gen.ReferenceIdeal
public import proofs.«01_k».proof.Proof.Gen.ReferenceIdeal.Frame
public import proofs.«01_k».proof.Proof.Meet
public import proofs.«01_k».proof.Proof.RefValue
public import proofs.«01_k».proof.Proof.Routed

@[expose] public section

noncomputable section

namespace Cert.Proof

open Idealize.ShloMosaic Idealize.ShloMosaic.TcCoe Idealize.SL.Sem

open Cert.KernelIdeal Cert.KernelIdeal.Gen in
/-- The kernel's run, its result read. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (((0 : Dev nD).tc : Thread nD τ).loc main_v19) = Cert.KernelIdeal.Blocks.result m) :=
  (θ_run defs _ _).mono (fun _ h => ((h 0).1 4).trans (Cert.KernelIdeal.Blocks.final m (Cert.KernelIdeal.Tables.ok m)))
    (run_main m ρ (Cert.KernelIdeal.Tables.ok m))

/-- The kernel and the reference leave the same array, where the counts are natural numbers that add up to no more rows than there are. -/
theorem algebraic : algebraic_KernelIdeal_ReferenceIdeal_pre_routed (hKernelIdeal := Cert.KernelIdeal.Gen.facts)
    (hReferenceIdeal := Cert.ReferenceIdeal.Gen.facts) (hPre_routed := Cert.Routed.facts) := by
  intro m g m' g' hpre hagree
  have hC : Cert.ReferenceIdeal.Route.Good (Cert.KernelIdeal.Blocks.aC m) := Cert.Routed.good _ _ _ _ _ (hpre 0).1 (hpre 0).2
  have one : ∀ c : Dev Cert.KernelIdeal.nD, c = 0 := fun c => Subsingleton.elim _ _
  refine ⟨fun c => Cert.ReferenceIdeal.Route.out (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)), ?_, ?_⟩
  · refine (θ_run Cert.KernelIdeal.defs _ _).mono (fun r h c => ⟨?_, h.2 c⟩)
      (θ_run_and (kernel_run m g) (Cert.KernelIdeal.Gen.unchanged m g (Cert.KernelIdeal.Tables.ok m)))
    obtain rfl := one c
    obtain ⟨e0, e1, e2, e3, e4⟩ := hagree 0
    refine h.1.trans ((Cert.KernelIdeal.Blocks.result_eq m hC).trans ?_)
    exact (Cert.ReferenceIdeal.Route.out_congr e0 e1 e2 e3 e4).symm
  · exact (θ_run Cert.ReferenceIdeal.defs _ _).mono (fun r h c => ⟨h.1 c, h.2 c⟩)
      (θ_run_and (Cert.ReferenceIdeal.Value.run m' g') (Cert.ReferenceIdeal.Gen.unchanged m' g'))

theorem claim : Cert.Claim := ⟨Cert.Kernel.Gen.facts, Cert.KernelIdeal.Gen.facts, Cert.ReferenceIdeal.Gen.facts, Cert.Routed.facts,
  fun m g _ => Cert.Kernel.Gen.frame m g (Cert.Kernel.Tables.ok m),
  fun m g _ => Cert.KernelIdeal.Gen.frame m g (Cert.KernelIdeal.Tables.ok m),
  fun m g _ => Cert.KernelIdeal.Gen.frame m g (Cert.KernelIdeal.Tables.ok m),
  fun m g _ => Cert.ReferenceIdeal.Gen.frame m g,
  fun m g _ => Cert.ReferenceIdeal.Gen.frame m g,
  trivial,
  algebraic⟩

end Cert.Proof

end
